-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v13) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x2048x2048 : Shape := ⟨3, ![4, 2048, 2048]⟩
abbrev S4x16x2048 : Shape := ⟨3, ![4, 16, 2048]⟩
abbrev S2x2048x8192 : Shape := ⟨3, ![2, 2048, 8192]⟩
abbrev S2x8192x2048 : Shape := ⟨3, ![2, 8192, 2048]⟩
abbrev S1x2048x2048 : Shape := ⟨3, ![1, 2048, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x16x2048 : S_.BroadcastsInDim S4x16x2048 (![] : Fin 0 → Fin S4x16x2048.rank)
  reducesTo_S4x16x2048_S_d0_1_2 : S4x16x2048.ReducesTo [0, 1, 2] S_

variable [Facts]

def fn {F : FTy → Type} [FloatOps F] (main_arg0 : FVec F S4x2048x2048 .f32) (main_arg1 : FVec F S4x2048x2048 .f32) (main_arg2 : FVec F S4x2048x2048 .f32) (main_arg3 : FVec F S4x16x2048 .f32) (main_arg4 : FVec F S2x2048x8192 .f32) (main_arg5 : FVec F S2x8192x2048 .f32) (main_arg6 : FVec F S1x2048x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x16x2048 .f32 := Host.absf main_arg3
  let main_cst_2 : FVec F S_ .f32 := constant S_ .f32 0x7F800000#32
  let main_v10 : FVec F S4x16x2048 .f32 := broadcastInDim S4x16x2048 ![] bcast_S_S4x16x2048 main_cst_2
  let main_v11 : IVec S4x16x2048 1 := cmpf .olt main_v9 main_v10
  let main_c_3 : IVec S_ 1 := constantI S_ 1 1#1
  let main_v12 : IVec S_ 1 := (fun x v => Host.reduce IntOp.andi x v reducesTo_S4x16x2048_S_d0_1_2 h_S_) main_v11 main_c_3
  let main_v13 : IVec S_ 1 := andi main_v8 main_v12
  main_v13
-- ==== Kernel.lean ====
abbrev S4x2048x2048 : Shape := ⟨3, ![4, 2048, 2048]⟩
abbrev S4x16x2048 : Shape := ⟨3, ![4, 16, 2048]⟩
abbrev S2x2048x8192 : Shape := ⟨3, ![2, 2048, 8192]⟩
abbrev S2x8192x2048 : Shape := ⟨3, ![2, 8192, 2048]⟩
abbrev S1x2048x2048 : Shape := ⟨3, ![1, 2048, 2048]⟩
abbrev S_ : Shape := ⟨0, ![]⟩
abbrev S4x2048x6144 : Shape := ⟨3, ![4, 2048, 6144]⟩
abbrev S4x2048x16 : Shape := ⟨3, ![4, 2048, 16]⟩
abbrev S4x2048x128 : Shape := ⟨3, ![4, 2048, 128]⟩
abbrev S32x2x2048 : Shape := ⟨3, ![32, 2, 2048]⟩
abbrev S1x2048x8192 : Shape := ⟨3, ![1, 2048, 8192]⟩
abbrev S1x8192x2048 : Shape := ⟨3, ![1, 8192, 2048]⟩
abbrev S1x2048x256 : Shape := ⟨3, ![1, 2048, 256]⟩
abbrev S1x2048x128 : Shape := ⟨3, ![1, 2048, 128]⟩
abbrev S1x2x2048 : Shape := ⟨3, ![1, 2, 2048]⟩
abbrev S1x64x8192 : Shape := ⟨3, ![1, 64, 8192]⟩
abbrev S1x256x2048 : Shape := ⟨3, ![1, 256, 2048]⟩
abbrev S1x64x2048 : Shape := ⟨3, ![1, 64, 2048]⟩
abbrev S64x8192 : Shape := ⟨2, ![64, 8192]⟩
abbrev S256x2048 : Shape := ⟨2, ![256, 2048]⟩
abbrev S64x2048 : Shape := ⟨2, ![64, 2048]⟩
abbrev S512x128 : Shape := ⟨2, ![512, 128]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S1x1x512 : Shape := ⟨3, ![1, 1, 512]⟩
abbrev S1x512 : Shape := ⟨2, ![1, 512]⟩

abbrev nBuf : Space → Nat
  | .hbm => 27
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x16x2048, .f32⟩
  | .hbm, ⟨4, _⟩ => ⟨S2x2048x8192, .f32⟩
  | .hbm, ⟨5, _⟩ => ⟨S2x8192x2048, .f32⟩
  | .hbm, ⟨6, _⟩ => ⟨S1x2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x6144, .f32⟩
  | .hbm, ⟨17, _⟩ => ⟨S4x2048x6144, .bf16⟩
  | .hbm, ⟨18, _⟩ => ⟨S4x2048x16, .f32⟩
  | .hbm, ⟨19, _⟩ => ⟨S_, .i32⟩
  | .hbm, ⟨20, _⟩ => ⟨S_, .f32⟩
  | .hbm, ⟨21, _⟩ => ⟨S4x2048x128, .f32⟩
  | .hbm, ⟨22, _⟩ => ⟨S32x2x2048, .f32⟩
  | .hbm, ⟨23, _⟩ => ⟨S4x2048x2048, .bf16⟩
  | .hbm, ⟨24, _⟩ => ⟨S1x2048x8192, .bf16⟩
  | .hbm, ⟨25, _⟩ => ⟨S1x8192x2048, .bf16⟩
  | .hbm, ⟨26, _⟩ => ⟨S1x2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x2x2048, .f32⟩
  | .local _ .vmem, ⟨9, _⟩ => ⟨S1x2x2048, .f32⟩
  | .local _ .vmem, ⟨10, _⟩ => ⟨S1x64x8192, .f32⟩
  | .local _ .vmem, ⟨11, _⟩ => ⟨S1x64x8192, .f32⟩
  | .local _ .vmem, ⟨12, _⟩ => ⟨S1x256x2048, .f32⟩
  | .local _ .vmem, ⟨13, _⟩ => ⟨S1x256x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x2048x256, .bf16⟩
  | .local _ .vmem, ⟨17, _⟩ => ⟨S1x2048x256, .bf16⟩
  | .local _ .vmem, ⟨18, _⟩ => ⟨S1x64x8192, .bf16⟩
  | .local _ .vmem, ⟨19, _⟩ => ⟨S1x64x8192, .bf16⟩
  | .local _ .vmem, ⟨20, _⟩ => ⟨S1x256x2048, .bf16⟩
  | .local _ .vmem, ⟨21, _⟩ => ⟨S1x256x2048, .bf16⟩
  | .local _ .vmem, ⟨22, _⟩ => ⟨S1x64x2048, .bf16⟩
  | .local _ .vmem, ⟨23, _⟩ => ⟨S1x64x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x2048x2048 : Shape := ⟨3, ![4, 2048, 2048]⟩
abbrev S4x16x2048 : Shape := ⟨3, ![4, 16, 2048]⟩
abbrev S2x2048x8192 : Shape := ⟨3, ![2, 2048, 8192]⟩
abbrev S2x8192x2048 : Shape := ⟨3, ![2, 8192, 2048]⟩
abbrev S1x2048x2048 : Shape := ⟨3, ![1, 2048, 2048]⟩
abbrev S4x2048x16x128 : Shape := ⟨4, ![4, 2048, 16, 128]⟩
abbrev S_ : Shape := ⟨0, ![]⟩
abbrev S4x16x2048x2048 : Shape := ⟨4, ![4, 16, 2048, 2048]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x16x128x2048 : Shape := ⟨4, ![4, 16, 128, 2048]⟩
abbrev S1x2048x8192 : Shape := ⟨3, ![1, 2048, 8192]⟩
abbrev S1x8192x2048 : Shape := ⟨3, ![1, 8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x16x2048, .f32⟩
  | .hbm, ⟨4, _⟩ => ⟨S2x2048x8192, .f32⟩
  | .hbm, ⟨5, _⟩ => ⟨S2x8192x2048, .f32⟩
  | .hbm, ⟨6, _⟩ => ⟨S1x2048x2048, .f32⟩
  | .hbm, ⟨7, _⟩ => ⟨S4x2048x16x128, .f32⟩
  | .hbm, ⟨8, _⟩ => ⟨S_, .f32⟩
  | .hbm, ⟨9, _⟩ => ⟨S_, .f32⟩
  | .hbm, ⟨10, _⟩ => ⟨S4x2048x16x128, .f32⟩
  | .hbm, ⟨11, _⟩ => ⟨S4x2048x16x128, .f32⟩
  | .hbm, ⟨12, _⟩ => ⟨S4x2048x16x128, .f32⟩
  | .hbm, ⟨13, _⟩ => ⟨S4x2048x16x128, .f32⟩
  | .hbm, ⟨14, _⟩ => ⟨S4x16x2048x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x1x2048, .f32⟩
  | .hbm, ⟨19, _⟩ => ⟨S4x16x2048x2048, .f32⟩
  | .hbm, ⟨20, _⟩ => ⟨S4x16x2048x2048, .f32⟩
  | .hbm, ⟨21, _⟩ => ⟨S2048, .i32⟩
  | .hbm, ⟨22, _⟩ => ⟨S2048x1, .i32⟩
  | .hbm, ⟨23, _⟩ => ⟨S2048, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x16x2048x2048, .i1⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x128x2048, .f32⟩
  | .hbm, ⟨48, _⟩ => ⟨S4x2048x16x128, .f32⟩
  | .hbm, ⟨49, _⟩ => ⟨S4x2048x2048, .f32⟩
  | .hbm, ⟨50, _⟩ => ⟨S4x2048x2048, .bf16⟩
  | .hbm, ⟨51, _⟩ => ⟨S1x2048x8192, .f32⟩
  | .hbm, ⟨52, _⟩ => ⟨S1x2048x8192, .bf16⟩
  | .hbm, ⟨53, _⟩ => ⟨S1x8192x2048, .f32⟩
  | .hbm, ⟨54, _⟩ => ⟨S1x8192x2048, .bf16⟩
  | .hbm, ⟨55, _⟩ => ⟨S1x2048x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel2.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x8192x256 : Shape := ⟨3, ![2, 8192, 256]⟩
abbrev S2x2048x2048 : Shape := ⟨3, ![2, 2048, 2048]⟩
abbrev S2x256x2048 : Shape := ⟨3, ![2, 256, 2048]⟩
abbrev S2048 : Shape := ⟨1, ![2048]⟩
abbrev S1x2048 : Shape := ⟨2, ![1, 2048]⟩
abbrev S8192x16x128 : Shape := ⟨3, ![8192, 16, 128]⟩
abbrev S_ : Shape := ⟨0, ![]⟩
abbrev S8192x128 : Shape := ⟨2, ![8192, 128]⟩
abbrev S1x2048x8192 : Shape := ⟨3, ![1, 2048, 8192]⟩
abbrev S1x8192x2048 : Shape := ⟨3, ![1, 8192, 2048]⟩
abbrev S1x1x2048 : Shape := ⟨3, ![1, 1, 2048]⟩
abbrev S2x1x2048 : Shape := ⟨3, ![2, 1, 2048]⟩
abbrev S1024x2048 : Shape := ⟨2, ![1024, 2048]⟩
abbrev S1024x128 : Shape := ⟨2, ![1024, 128]⟩
abbrev S1x2048x1024 : Shape := ⟨3, ![1, 2048, 1024]⟩
abbrev S1x1024x2048 : Shape := ⟨3, ![1, 1024, 2048]⟩
abbrev S1024x256 : Shape := ⟨2, ![1024, 256]⟩
abbrev S1x1024x256 : Shape := ⟨3, ![1, 1024, 256]⟩
abbrev S1x2048x512 : Shape := ⟨3, ![1, 2048, 512]⟩
abbrev S1x256x512 : Shape := ⟨3, ![1, 256, 512]⟩
abbrev S1024x1 : Shape := ⟨2, ![1024, 1]⟩
abbrev S1024 : Shape := ⟨1, ![1024]⟩
abbrev S2048x1024 : Shape := ⟨2, ![2048, 1024]⟩
abbrev S1024x1024 : Shape := ⟨2, ![1024, 1024]⟩
abbrev S1x1024x512 : Shape := ⟨3, ![1, 1024, 512]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S1x2048x256 : Shape := ⟨3, ![1, 2048, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 26
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S2x8192x256, .f32⟩
  | .hbm, ⟨6, _⟩ => ⟨S2x2048x2048, .f32⟩
  | .hbm, ⟨7, _⟩ => ⟨S2x256x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S8192x2048, .f32⟩
  | .hbm, ⟨16, _⟩ => ⟨S8192x16x128, .f32⟩
  | .hbm, ⟨17, _⟩ => ⟨S_, .f32⟩
  | .hbm, ⟨18, _⟩ => ⟨S8192x128, .f32⟩
  | .hbm, ⟨19, _⟩ => ⟨S1x2048x8192, .f32⟩
  | .hbm, ⟨20, _⟩ => ⟨S1x2048x8192, .bf16⟩
  | .hbm, ⟨21, _⟩ => ⟨S1x8192x2048, .f32⟩
  | .hbm, ⟨22, _⟩ => ⟨S1x8192x2048, .bf16⟩
  | .hbm, ⟨23, _⟩ => ⟨S1x1x2048, .f32⟩
  | .hbm, ⟨24, _⟩ => ⟨S2x1x2048, .f32⟩
  | .hbm, ⟨25, _⟩ => ⟨S8192x2048, .f32⟩
  | .local _ .vmem, ⟨0, _⟩ => ⟨S1024x2048, .bf16⟩
  | .local _ .vmem, ⟨1, _⟩ => ⟨S1024x128, .f32⟩
  | .local _ .vmem, ⟨2, _⟩ => ⟨S1024x128, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1024x256, .f32⟩
  | .local _ .vmem, ⟨8, _⟩ => ⟨S1024x256, .f32⟩
  | .local _ .vmem, ⟨9, _⟩ => ⟨S1x1x2048, .f32⟩
  | .local _ .vmem, ⟨10, _⟩ => ⟨S1x1024x256, .f32⟩
  | .local _ .vmem, ⟨11, _⟩ => ⟨S1x2048x512, .f32⟩
  | .local _ .vmem, ⟨12, _⟩ => ⟨S1x2048x512, .f32⟩
  | .local _ .vmem, ⟨13, _⟩ => ⟨S1x256x512, .f32⟩
  | .local _ .vmem, ⟨14, _⟩ => ⟨S1x256x512, .f32⟩
  | .local _ .vmem, ⟨15, _⟩ => ⟨S1x1x2048, .f32⟩
  | .local _ .vmem, ⟨16, _⟩ => ⟨S1024x2048, .f32⟩
  | .local _ .vmem, ⟨17, _⟩ => ⟨S1024x2048, .bf16⟩
  | .local _ .vmem, ⟨18, _⟩ => ⟨S1024x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![8, 12], ![false, false]⟩

def k0_cond3 (i : grid0.Coords) : BitVec 1 :=
  let arg1 : BitVec 32 := BitVec.ofNat 32 (i 1).val
  let c8_i32_3 : BitVec 32 := 8#32
  let v8 : BitVec 1 := Scalar.cmpi .slt arg1 c8_i32_3
  let v9 : BitVec 32 := Scalar.extui v8
  let c0_i32_4 : BitVec 32 := 0#32
  let v10 : BitVec 1 := Scalar.cmpi .ne v9 c0_i32_4
  v10

def k0_mult1 (i : grid0.Coords) : BitVec 32 :=
  let arg1 : BitVec 32 := BitVec.ofNat 32 (i 1).val
  let c256_i32 : BitVec 32 := 256#32
  let v20 : BitVec 32 := Scalar.muli arg1 c256_i32
  v20
def k0_off1 (i : grid0.Coords) : Fin 2 → Nat :=
  let c0 : Index := 0#32
  let arg1 : BitVec 32 := BitVec.ofNat 32 (i 1).val
  let c256_i32 : BitVec 32 := 256#32
  let v20 : BitVec 32 := Scalar.muli arg1 c256_i32
  let v21 : BitVec 32 := v20
  let v22 : Index := Scalar.indexCast v21
  ![0, v22.toNat]
def k0_cond4 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_11 : BitVec 32 := 0#32
  let c4_i32 : BitVec 32 := 4#32
  let v22 : BitVec 32 := Scalar.addi c0_i32_11 c4_i32
  let c1_i32 : BitVec 32 := 1#32
  ⟨c0_i32_11, v22, c1_i32⟩
def k0_mult2 (k0_t1 : Fin k0_t1_loop.trips) : BitVec 32 :=
  let c0_i32_11 : BitVec 32 := 0#32
  let c1_i32 : BitVec 32 := 1#32
  let arg15 : BitVec 32 := Scf.iv c0_i32_11 c1_i32 k0_t1
  let c256_i32 : BitVec 32 := 256#32
  let v23 : BitVec 32 := Scalar.muli arg15 c256_i32
  v23
def k0_off2 (k0_t1 : Fin k0_t1_loop.trips) : Fin 2 → Nat :=
  let c0_i32_11 : BitVec 32 := 0#32
  let c1_i32 : BitVec 32 := 1#32
  let arg15 : BitVec 32 := Scf.iv c0_i32_11 c1_i32 k0_t1
  let c256_i32 : BitVec 32 := 256#32
  let v23 : BitVec 32 := Scalar.muli arg15 c256_i32
  let v24 : BitVec 32 := v23
  let v25 : Index := Scalar.indexCast v24
  let c0_13 : Index := 0#32
  ![v25.toNat, 0]
def k0_cond5 (i : grid0.Coords) : BitVec 1 :=
  let arg1 : BitVec 32 := BitVec.ofNat 32 (i 1).val
  let c8_i32_6 : BitVec 32 := 8#32
  let v14 : BitVec 1 := Scalar.cmpi .sge arg1 c8_i32_6
  let v15 : BitVec 32 := Scalar.extui v14
  let c0_i32_7 : BitVec 32 := 0#32
  let v16 : BitVec 1 := Scalar.cmpi .ne v15 c0_i32_7
  v16

def k0_mult3 (i : grid0.Coords) : BitVec 32 :=
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_14 : BitVec 32 := 0#32
  let v31 : BitVec 1 := Scalar.cmpi .eq v30 c0_i32_14
  let arg1 : BitVec 32 := BitVec.ofNat 32 (i 1).val
  let c8_i32_9 : BitVec 32 := 8#32
  let v20 : BitVec 32 := Scalar.subi arg1 c8_i32_9
  let c3_i32 : BitVec 32 := 3#32
  let v32 : BitVec 32 := Scalar.subi c3_i32 v20
  let v33 : BitVec 32 := Scalar.select v31 v20 v32
  let c512_i32 : BitVec 32 := 512#32
  let v34 : BitVec 32 := Scalar.muli v33 c512_i32
  v34
def k0_off3 (i : grid0.Coords) (c0_i32_29 : BitVec 32) : Fin 2 → Nat :=
  let c0_30 : Index := 0#32
  let arg0 : BitVec 32 := BitVec.ofNat 32 (i 0).val
  let c2_i32 : BitVec 32 := 2#32
  let c0_i32_10 : BitVec 32 := 0#32
  let v21 : BitVec 1 := Scalar.cmpi .eq c2_i32 c0_i32_10
  let c1_i32 : BitVec 32 := 1#32
  let v22 : BitVec 32 := Scalar.select v21 c1_i32 c2_i32
  let v23 : BitVec 32 := Scalar.remsi arg0 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c0_i32_14 : BitVec 32 := 0#32
  let v31 : BitVec 1 := Scalar.cmpi .eq v30 c0_i32_14
  let arg1 : BitVec 32 := BitVec.ofNat 32 (i 1).val
  let c8_i32_9 : BitVec 32 := 8#32
  let v20 : BitVec 32 := Scalar.subi arg1 c8_i32_9
  let c3_i32 : BitVec 32 := 3#32
  let v32 : BitVec 32 := Scalar.subi c3_i32 v20
  let v33 : BitVec 32 := Scalar.select v31 v20 v32
  let c512_i32 : BitVec 32 := 512#32
  let v34 : BitVec 32 := Scalar.muli v33 c512_i32
  let v35 : BitVec 32 := v34
  let v55 : BitVec 32 := Scalar.addi v35 c0_i32_29
  let v56 : Index := Scalar.indexCast v55
  ![0, v56.toNat]
def k0_cond6 (i : grid0.Coords) : BitVec 1 :=
  let arg1 : BitVec 32 := BitVec.ofNat 32 (i 1).val
  let c11_i32 : BitVec 32 := 11#32
  let v17 : BitVec 1 := Scalar.cmpi .eq arg1 c11_i32
  let v18 : BitVec 32 := Scalar.extui v17
  let c0_i32_8 : BitVec 32 := 0#32
  let v19 : BitVec 1 := Scalar.cmpi .ne v18 c0_i32_8
  v19

@[reducible] def k0_t2_loop : Scf.Loop 32 :=
  let c0_i32_11 : BitVec 32 := 0#32
  let c4_i32 : BitVec 32 := 4#32
  let v22 : BitVec 32 := Scalar.addi c0_i32_11 c4_i32
  let c1_i32 : BitVec 32 := 1#32
  ⟨c0_i32_11, v22, c1_i32⟩
def k0_mult4 (k0_t2 : Fin k0_t2_loop.trips) : BitVec 32 :=
  let c0_i32_11 : BitVec 32 := 0#32
  let c1_i32 : BitVec 32 := 1#32
  let arg15 : BitVec 32 := Scf.iv c0_i32_11 c1_i32 k0_t2
  let c256_i32 : BitVec 32 := 256#32
  let v23 : BitVec 32 := Scalar.muli arg15 c256_i32
  v23
def k0_off4 (k0_t2 : Fin k0_t2_loop.trips) : Fin 2 → Nat :=
  let c0_i32_11 : BitVec 32 := 0#32
  let c1_i32 : BitVec 32 := 1#32
  let arg15 : BitVec 32 := Scf.iv c0_i32_11 c1_i32 k0_t2
  let c256_i32 : BitVec 32 := 256#32
  let v23 : BitVec 32 := Scalar.muli arg15 c256_i32
  let v24 : BitVec 32 := v23
  let v25 : Index := Scalar.indexCast v24
  let c0_13 : Index := 0#32
  ![v25.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c7_i32_4 : BitVec 32 := 7#32
  let v12 : BitVec 32 := Scalar.subi c7_i32_4 v0
  let v13 : BitVec 32 := Scalar.select v11 v0 v12
  let c0_i32_5 : BitVec 32 := 0#32
  let c0_i32_6 : BitVec 32 := 0#32
  let c0_i32_7 : BitVec 32 := 0#32
  ![c0_i32_5.toNat, c0_i32_6.toNat, v13.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c7_i32_4 : BitVec 32 := 7#32
  let v12 : BitVec 32 := Scalar.subi c7_i32_4 v0
  let v13 : BitVec 32 := Scalar.select v11 v0 v12
  let c0_i32_5 : BitVec 32 := 0#32
  let c0_i32_6 : BitVec 32 := 0#32
  let c0_i32_7 : BitVec 32 := 0#32
  ![c0_i32_5.toNat, v13.toNat, c0_i32_6.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_5 : BitVec 32 := 3#32
  let v14 : BitVec 32 := Scalar.subi c3_i32_5 v2
  let v15 : BitVec 32 := Scalar.select v13 v2 v14
  let c1_i32_6 : BitVec 32 := 1#32
  let c0_i32_7 : BitVec 32 := 0#32
  let c0_i32_8 : BitVec 32 := 0#32
  ![c1_i32_6.toNat, c0_i32_7.toNat, v15.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c2_i32 : BitVec 32 := 2#32
  let c0_i32_0 : BitVec 32 := 0#32
  let v3 : BitVec 1 := Scalar.cmpi .eq c2_i32 c0_i32_0
  let c1_i32 : BitVec 32 := 1#32
  let v4 : BitVec 32 := Scalar.select v3 c1_i32 c2_i32
  let v5 : BitVec 32 := Scalar.remsi arg0 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let c3_i32_5 : BitVec 32 := 3#32
  let v14 : BitVec 32 := Scalar.subi c3_i32_5 v2
  let v15 : BitVec 32 := Scalar.select v13 v2 v14
  let c1_i32_6 : BitVec 32 := 1#32
  let c0_i32_7 : BitVec 32 := 0#32
  let c0_i32_8 : BitVec 32 := 0#32
  ![c1_i32_6.toNat, c0_i32_7.toNat, v15.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== Reference2Ideal.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x8192x256 : Shape := ⟨3, ![2, 8192, 256]⟩
abbrev S2x2048x2048 : Shape := ⟨3, ![2, 2048, 2048]⟩
abbrev S2x256x2048 : Shape := ⟨3, ![2, 256, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩
abbrev S1x2048x2048 : Shape := ⟨3, ![1, 2048, 2048]⟩
abbrev S2048x2048 : Shape := ⟨2, ![2048, 2048]⟩
abbrev S1x8192x256 : Shape := ⟨3, ![1, 8192, 256]⟩
abbrev S8192x256 : Shape := ⟨2, ![8192, 256]⟩
abbrev S1x256x2048 : Shape := ⟨3, ![1, 256, 2048]⟩
abbrev S256x2048 : Shape := ⟨2, ![256, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S2x8192x256, .f32⟩
  | .hbm, ⟨6, _⟩ => ⟨S2x2048x2048, .f32⟩
  | .hbm, ⟨7, _⟩ => ⟨S2x256x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048x8192, .f32⟩
  | .hbm, ⟨28, _⟩ => ⟨S2048x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S1x8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S1x2048x2048, .f32⟩
  | .hbm, ⟨57, _⟩ => ⟨S2048x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S1x8192x256, .f32⟩
  | .hbm, ⟨68, _⟩ => ⟨S8192x256, .f32⟩
  | .hbm, ⟨69, _⟩ => ⟨S1x256x2048, .f32⟩
  | .hbm, ⟨70, _⟩ => ⟨S256x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x2048, .f32⟩
  | .hbm, ⟨86, _⟩ => ⟨S8192x2048, .f32⟩
  | .hbm, ⟨87, _⟩ => ⟨S1x2048, .f32⟩
  | .hbm, ⟨88, _⟩ => ⟨S8192x2048, .f32⟩
  | .hbm, ⟨89, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel3.lean ====
abbrev S8192x2048 : Shape := ⟨2, ![8192, 2048]⟩
abbrev S2x2048 : Shape := ⟨2, ![2, 2048]⟩
abbrev S1x2048x8192 : Shape := ⟨3, ![1, 2048, 8192]⟩
abbrev S2x1x2048 : Shape := ⟨3, ![2, 1, 2048]⟩
abbrev S8192x8192 : Shape := ⟨2, ![8192, 8192]⟩
abbrev S1024x2048 : Shape := ⟨2, ![1024, 2048]⟩
abbrev S1x1x2048 : Shape := ⟨3, ![1, 1, 2048]⟩
abbrev S1x2048x1024 : Shape := ⟨3, ![1, 2048, 1024]⟩
abbrev S1024x1024 : Shape := ⟨2, ![1024, 1024]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x8192, .f32⟩
  | .hbm, ⟨3, _⟩ => ⟨S2x1x2048, .f32⟩
  | .hbm, ⟨4, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1024, .f32⟩
  | .local _ .vmem, ⟨4, _⟩ => ⟨S1x2048x1024, .f32⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c4_i32 : BitVec 32 := 4#32
  let v11 : BitVec 32 := Scalar.addi c0_i32_10 c4_i32
  let c1_i32 : BitVec 32 := 1#32
  ⟨c0_i32_10, v11, c1_i32⟩
def k0_mult1 (k0_t1 : Fin k0_t1_loop.trips) : BitVec 32 :=
  let c0_i32_10 : BitVec 32 := 0#32
  let c1_i32 : BitVec 32 := 1#32
  let arg7 : BitVec 32 := Scf.iv c0_i32_10 c1_i32 k0_t1
  let c256_i32 : BitVec 32 := 256#32
  let v12 : BitVec 32 := Scalar.muli arg7 c256_i32
  v12
def k0_off1 (k0_t1 : Fin k0_t1_loop.trips) : Fin 2 → Nat :=
  let c0_i32_10 : BitVec 32 := 0#32
  let c1_i32 : BitVec 32 := 1#32
  let arg7 : BitVec 32 := Scf.iv c0_i32_10 c1_i32 k0_t1
  let c256_i32 : BitVec 32 := 256#32
  let v12 : BitVec 32 := Scalar.muli arg7 c256_i32
  let v13 : BitVec 32 := v12
  let v14 : Index := Scalar.indexCast v13
  let c0_12 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  let c0_i32_5 : BitVec 32 := 0#32
  let c0_i32_6 : BitVec 32 := 0#32
  ![c0_i32_4.toNat, c0_i32_5.toNat, v12.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  ![arg0.toNat, v12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S2x2048 : Shape := ⟨2, ![2, 2048]⟩
abbrev S1x2048x8192 : Shape := ⟨3, ![1, 2048, 8192]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048x8192, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x8192, .f32⟩
  | .hbm, ⟨22, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S8192x2048 : Shape := ⟨2, ![8192, 2048]⟩
abbrev S1x2048x2048 : Shape := ⟨3, ![1, 2048, 2048]⟩
abbrev S2x2048 : Shape := ⟨2, ![2, 2048]⟩
abbrev S2x1x2048 : Shape := ⟨3, ![2, 1, 2048]⟩
abbrev S8192x128 : Shape := ⟨2, ![8192, 128]⟩
abbrev S512x2048 : Shape := ⟨2, ![512, 2048]⟩
abbrev S1x1x2048 : Shape := ⟨3, ![1, 1, 2048]⟩
abbrev S512x128 : Shape := ⟨2, ![512, 128]⟩
abbrev S2048x2048 : Shape := ⟨2, ![2048, 2048]⟩
abbrev S1x2048 : Shape := ⟨2, ![1, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2x2048, .f32⟩
  | .hbm, ⟨4, _⟩ => ⟨S2x1x2048, .f32⟩
  | .hbm, ⟨5, _⟩ => ⟨S8192x2048, .f32⟩
  | .hbm, ⟨6, _⟩ => ⟨S8192x2048, .bf16⟩
  | .hbm, ⟨7, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 32 := Scalar.subi c0_i32_4 arg1
  let v12 : BitVec 32 := Scalar.select v10 arg1 v11
  let c0_i32_5 : BitVec 32 := 0#32
  let c0_i32_6 : BitVec 32 := 0#32
  let c0_i32_7 : BitVec 32 := 0#32
  ![c0_i32_5.toNat, c0_i32_6.toNat, v12.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 32 := Scalar.subi c0_i32_4 arg1
  let v12 : BitVec 32 := Scalar.select v10 arg1 v11
  let c0_i32_5 : BitVec 32 := 0#32
  ![arg0.toNat, v12.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 32 := Scalar.subi c0_i32_4 arg1
  let v12 : BitVec 32 := Scalar.select v10 arg1 v11
  let c1_i32_5 : BitVec 32 := 1#32
  let c0_i32_6 : BitVec 32 := 0#32
  let c0_i32_7 : BitVec 32 := 0#32
  ![c1_i32_5.toNat, c0_i32_6.toNat, v12.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 32 := Scalar.subi c0_i32_4 arg1
  let v12 : BitVec 32 := Scalar.select v10 arg1 v11
  let c0_i32_5 : BitVec 32 := 0#32
  ![arg0.toNat, v12.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 32 := Scalar.subi c0_i32_4 arg1
  let v12 : BitVec 32 := Scalar.select v10 arg1 v11
  let c0_i32_5 : BitVec 32 := 0#32
  ![arg0.toNat, v12.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 32 := Scalar.subi c0_i32_4 arg1
  let v12 : BitVec 32 := Scalar.select v10 arg1 v11
  let c0_i32_5 : BitVec 32 := 0#32
  ![arg0.toNat, v12.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S1x2048x2048 : Shape := ⟨3, ![1, 2048, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S8192x16x128 : Shape := ⟨3, ![8192, 16, 128]⟩
abbrev S_ : Shape := ⟨0, ![]⟩
abbrev S8192x128 : Shape := ⟨2, ![8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2x2048, .f32⟩
  | .hbm, ⟨4, _⟩ => ⟨S8192x2048, .f32⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S8192x2048, .f32⟩
  | .hbm, ⟨16, _⟩ => ⟨S8192x16x128, .f32⟩
  | .hbm, ⟨17, _⟩ => ⟨S_, .f32⟩
  | .hbm, ⟨18, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Fox.Tile.lean ====
/-
  The forgetting attention's block of 512 queries of one head, as the kernel computes it: a running
  maximum `m`, and a running weighted sum `acc` of the keys' value rows, the value rows having been
  lengthened by a column of ones so that the sum of the weights runs in the same product.
  The eight blocks a grid point writes (four query blocks of two heads) are instances of it.
-/
module

public import proofs.«01_k».proof.Proof.Gen.KernelIdeal.Frame

@[expose] public section

set_option maxRecDepth 16384

noncomputable section

namespace Cert.KernelIdeal.Fox

open Cert.KernelIdeal Cert.KernelIdeal.Gen
open Idealize.ShloMosaic Idealize.ShloMosaic.TcCoe Idealize.SL.Sem

variable {F : FTy → Type} [FloatOps F] [Named F]

/-- The lane numbers of a 512 × 128 tile. -/
def lanes : IVec S512x128 32 := iota .tc S512x128 32 [1] iota_S512x128_d1_w32

/-- The queries' own cumulated log decay, times log2(e): the lane of the head `w` out of `dc`. -/
def decayQ (w : BitVec 32) (dc : Vec F S1x512x128 .f32) : FVec F S512x1 .f32 := k0_pay7 lanes w dc

/-- Scores of 512 queries against 512 keys, the keys' decay taken off. -/
def scores (q k : Vec F S1x512x128 .bf16) (dr : Vec F S1x1x512 .f32) : FVec F S512x512 .f32 :=
  subf (k0_pay20 q k) (k0_pay21 dr)

/-- The scores of the block on the diagonal: a key later than the query gets minus infinity. -/
def scoresDiag (q k : Vec F S1x512x128 .bf16) (dr : Vec F S1x1x512 .f32) : FVec F S512x512 .f32 :=
  k0_pay10 k0_pay5 q k dr

/-- The next running maximum. -/
def maxT (m : FVec F S512x1 .f32) (t : FVec F S512x512 .f32) (dq : FVec F S512x1 .f32) : FVec F S512x1 .f32 :=
  maximumf m (addf (shapeCast S512x1 (multiReduction .maximumf [1] S512 t 0xFF800000#32 reduces_S512x512_S512 (.inl rfl) rfl) shapeCasts_S512_S512x1) dq)

/-- The next running sum. -/
def accT (m m' : FVec F S512x1 .f32) (a : FVec F S512x256 .f32) (t : FVec F S512x512 .f32) (dq : FVec F S512x1 .f32) (v : Vec F S1x512x128 .bf16) : FVec F S512x256 .f32 :=
  addf (mulf (broadcastTo S512x256 (exp2 (subf m m')) broadcasts_S512x1_S512x256) a)
    (matmul dot_S512x512_S512x256_S512x256_1_0_0_1_n_n none
      (truncf .bf16 (exp2 (addf t (broadcastTo S512x512 (subf dq m') broadcasts_S512x1_S512x512))) bitsLt_bf16_f32)
      (concatenate S512x256 1 [⟨S512x128, shapeCast S512x128 v shapeCasts_S1x512x128_S512x128⟩, ⟨S512x128, (k0_pay6 : FVec F S512x128 .bf16)⟩] concatenates_S512x128_S512x128_S512x256_d1)
      (constant S512x256 .f32 0x00000000#32))

/-- Maximum and sum together. -/
abbrev St (F : FTy → Type) := FVec F S512x1 .f32 × FVec F S512x256 .f32

/-- Before any key. -/
def st0 : St F := (k0_pay8, k0_pay9)

/-- One key block more. -/
def stepT (s : St F) (t : FVec F S512x512 .f32) (dq : FVec F S512x1 .f32) (v : Vec F S1x512x128 .bf16) : St F :=
  (maxT s.1 t dq, accT s.1 (maxT s.1 t dq) s.2 t dq v)

/-- The weighted sum divided by the sum of the weights, which stands in column 128. -/
def finT (a : FVec F S512x256 .f32) : FVec F S1x512x128 .bf16 :=
  shapeCast S1x512x128 (truncf .bf16 (divf (extractStridedSlice S512x128 ![0, 0] a slices_S512x256_o0_0_S512x128)
    (broadcastTo S512x128 (extractStridedSlice S512x1 ![0, 128] a slices_S512x256_o0_128_S512x1) broadcasts_S512x1_S512x128)) bitsLt_bf16_f32) shapeCasts_S512x128_S1x512x128

/-- The word of head `hd` of the pair of heads that the grid's second coordinate names. -/
def headW (i : grid0.Coords) (hd : BitVec 32) : BitVec 32 := Scalar.addi (Scalar.muli (BitVec.ofNat 32 (i 1).val) 2#32) hd

variable (w : BitVec 32) (q : Vec F S1x512x128 .bf16) (dc : Vec F S1x512x128 .f32)
variable (k0 k1 k2 k3 v0 v1 v2 v3 : Vec F S1x512x128 .bf16) (d0 d1 d2 d3 : Vec F S1x1x512 .f32)

/-- The state after 0, 1, 2, 3 unmasked key blocks. -/
def s1 : St F := stepT st0 (scores q k0 d0) (decayQ w dc) v0
/-- After two. -/
def s2 : St F := stepT (s1 w q dc k0 v0 d0) (scores q k1 d1) (decayQ w dc) v1
/-- After three. -/
def s3 : St F := stepT (s2 w q dc k0 k1 v0 v1 d0 d1) (scores q k2 d2) (decayQ w dc) v2

/-- Query block 0 of a head. -/
def tile0 : FVec F S1x512x128 .bf16 := finT (stepT st0 (scoresDiag q k0 d0) (decayQ w dc) v0).2
/-- Query block 1. -/
def tile1 : FVec F S1x512x128 .bf16 := finT (stepT (s1 w q dc k0 v0 d0) (scoresDiag q k1 d1) (decayQ w dc) v1).2
/-- Query block 2. -/
def tile2 : FVec F S1x512x128 .bf16 := finT (stepT (s2 w q dc k0 k1 v0 v1 d0 d1) (scoresDiag q k2 d2) (decayQ w dc) v2).2
/-- Query block 3. -/
def tile3 : FVec F S1x512x128 .bf16 := finT (stepT (s3 w q dc k0 k1 k2 v0 v1 v2 d0 d1 d2) (scoresDiag q k3 d3) (decayQ w dc) v3).2

set_option maxHeartbeats 2000000 in
/-- What the body leaves in the attention's output block: the eight blocks of queries. -/
theorem out8_eq (i : grid0.Coords) (x0 x1 x2 : Vec F S1x2048x256 .bf16) (x3 : Vec F S1x2048x128 .f32) (x4 : Vec F S1x2x2048 .f32)
    (x5 : Vec F S1x64x8192 .f32) (x6 : Vec F S1x256x2048 .f32) (x7 : Vec F S1x64x2048 .f32) :
    out0_8 i x0 x1 x2 x3 x4 x5 x6 x7 = View.canon ([
      ⟨r0_21, tile3 (headW i 1#32) (View.ld x0 r0_21) (View.ld x3 r0_13) (View.ld x1 r0_15) (View.ld x1 r0_17) (View.ld x1 r0_19) (View.ld x1 r0_21) (View.ld x2 r0_15) (View.ld x2 r0_17) (View.ld x2 r0_19) (View.ld x2 r0_21) (View.ld x4 r0_16) (View.ld x4 r0_18) (View.ld x4 r0_20) (View.ld x4 r0_22)⟩,
      ⟨r0_19, tile2 (headW i 1#32) (View.ld x0 r0_19) (View.ld x3 r0_10) (View.ld x1 r0_15) (View.ld x1 r0_17) (View.ld x1 r0_19) (View.ld x2 r0_15) (View.ld x2 r0_17) (View.ld x2 r0_19) (View.ld x4 r0_16) (View.ld x4 r0_18) (View.ld x4 r0_20)⟩,
      ⟨r0_17, tile1 (headW i 1#32) (View.ld x0 r0_17) (View.ld x3 r0_7) (View.ld x1 r0_15) (View.ld x1 r0_17) (View.ld x2 r0_15) (View.ld x2 r0_17) (View.ld x4 r0_16) (View.ld x4 r0_18)⟩,
      ⟨r0_15, tile0 (headW i 1#32) (View.ld x0 r0_15) (View.ld x3 r0_4) (View.ld x1 r0_15) (View.ld x2 r0_15) (View.ld x4 r0_16)⟩,
      ⟨r0_12, tile3 (headW i 0#32) (View.ld x0 r0_12) (View.ld x3 r0_13) (View.ld x1 r0_3) (View.ld x1 r0_6) (View.ld x1 r0_9) (View.ld x1 r0_12) (View.ld x2 r0_3) (View.ld x2 r0_6) (View.ld x2 r0_9) (View.ld x2 r0_12) (View.ld x4 r0_5) (View.ld x4 r0_8) (View.ld x4 r0_11) (View.ld x4 r0_14)⟩,
      ⟨r0_9, tile2 (headW i 0#32) (View.ld x0 r0_9) (View.ld x3 r0_10) (View.ld x1 r0_3) (View.ld x1 r0_6) (View.ld x1 r0_9) (View.ld x2 r0_3) (View.ld x2 r0_6) (View.ld x2 r0_9) (View.ld x4 r0_5) (View.ld x4 r0_8) (View.ld x4 r0_11)⟩,
      ⟨r0_6, tile1 (headW i 0#32) (View.ld x0 r0_6) (View.ld x3 r0_7) (View.ld x1 r0_3) (View.ld x1 r0_6) (View.ld x2 r0_3) (View.ld x2 r0_6) (View.ld x4 r0_5) (View.ld x4 r0_8)⟩,
      ⟨r0_3, tile0 (headW i 0#32) (View.ld x0 r0_3) (View.ld x3 r0_4) (View.ld x1 r0_3) (View.ld x2 r0_3) (View.ld x4 r0_5)⟩] : List (View.Piece (Elt F) S1x2048x256 .bf16)) := by
  rfl

end Cert.KernelIdeal.Fox

end
-- ==== Proof.Fox.Online.lean ====
/-
  The softmax that is accumulated key block by key block, over the extended reals.

  One query sees scores `z s`, each a real number or minus infinity, the first of them real.  A running
  maximum and a running weighted sum, rescaled whenever the maximum grows, hold after any number of key
  blocks the maximum and the weighted sum of all the keys so far (`Inv`, `inv_step`).  Their quotient is
  the softmax average written plainly, base 2 and base e agreeing once the scores are scaled (`softmax_eq`).
-/
module

public import Idealize.ShloMosaic.PureOps.Ideal
public import Mathlib.Analysis.SpecialFunctions.Pow.Real

@[expose] public section

noncomputable section

namespace Cert.Fox

open Idealize.ShloMosaic

/-- `2 ^ x` is the exponential of `x · log 2`. -/
theorem rpow_two (r : ℝ) : Real.rpow 2 r = Real.exp (r * Real.log 2) := by
  rw [mul_comm]; exact Real.rpow_def_of_pos (by norm_num) r

theorem exp2_nonneg (x : EReal) : 0 ≤ Ideal.exp2 x := by
  induction x using EReal.rec with
  | bot => exact le_refl _
  | top => exact le_top
  | coe r => rw [Ideal.exp2_coe, rpow_two]; exact EReal.coe_nonneg.2 (Real.exp_pos _).le

/-- An extended real that is neither infinity is a real number. -/
theorem real_of {x : EReal} (h1 : x ≠ ⊥) (h2 : x ≠ ⊤) : ∃ r : ℝ, x = r := ⟨x.toReal, (EReal.coe_toReal h2 h1).symm⟩

/-- A nonnegative real factor goes into a sum. -/
theorem mul_sum_real {ι : Type*} (S : Finset ι) (f : ι → EReal) (c : EReal) (h0 : 0 ≤ c) (h1 : c ≠ ⊤) :
    c * ∑ s ∈ S, f s = ∑ s ∈ S, c * f s := by
  classical
  induction S using Finset.induction_on with
  | empty => simp
  | insert a S ha ih =>
    rw [Finset.sum_insert ha, Finset.sum_insert ha, EReal.left_distrib_of_nonneg_of_ne_top h0 h1, ih]

/-- A sum of real numbers is a real number. -/
theorem coe_sum {ι : Type*} (S : Finset ι) (e : ι → ℝ) : ∑ s ∈ S, (e s : EReal) = ((∑ s ∈ S, e s : ℝ) : EReal) := by
  classical
  induction S using Finset.induction_on with
  | empty => simp
  | insert a S ha ih => rw [Finset.sum_insert ha, Finset.sum_insert ha, ih, EReal.coe_add]

/-- A supremum of finitely many values below plus infinity is below it. -/
theorem sup_ne_top {ι : Type*} (S : Finset ι) (z : ι → EReal) (h : ∀ s ∈ S, z s ≠ ⊤) : S.sup z ≠ ⊤ := by
  have : S.sup z < ⊤ := (Finset.sup_lt_iff (by exact bot_lt_top)).2 fun s hs => lt_top_iff_ne_top.2 (h s hs)
  exact this.ne

/-- Adding a real number goes under a supremum. -/
theorem sup_add {ι : Type*} (S : Finset ι) (t : ι → EReal) (d : ℝ) : S.sup t + d = S.sup fun s => t s + d := by
  have := Finset.comp_sup_eq_sup_comp_of_is_total (s := S) (f := t) (fun x : EReal => x + d)
    (fun a b h => add_le_add_left h _) (by simp)
  exact this

/-- So does a positive real factor. -/
theorem sup_mul {ι : Type*} (S : Finset ι) (t : ι → EReal) (c : ℝ) (hc : 0 < c) : S.sup t * c = S.sup fun s => t s * c := by
  have := Finset.comp_sup_eq_sup_comp_of_is_total (s := S) (f := t) (fun x : EReal => x * (c : EReal))
    (fun a b h => mul_le_mul_of_nonneg_right h (EReal.coe_nonneg.2 hc.le)) (EReal.bot_mul_coe_of_pos hc)
  exact this

/-- The maximum and the weighted sum over the first `n` keys. -/
def Inv (z W : ℕ → EReal) (n : ℕ) (m a : EReal) : Prop :=
  m = (Finset.range n).sup z ∧ a = ∑ s ∈ Finset.range n, Ideal.exp2 (z s - m) * W s

theorem inv_zero (z W : ℕ → EReal) : Inv z W 0 ⊥ 0 := by simp [Inv]

/-- The maximum over at least one key is a real number. -/
theorem sup_real (z : ℕ → EReal) (hz : ∀ s, z s ≠ ⊤) (h0 : z 0 ≠ ⊥) {n : ℕ} (hn : 0 < n) :
    ∃ r : ℝ, (Finset.range n).sup z = r :=
  real_of (fun h => h0 (le_bot_iff.1 (h ▸ Finset.le_sup (f := z) (Finset.mem_range.2 hn)))) (sup_ne_top _ _ fun s _ => hz s)

/-- Rescaling a weight from one real maximum to another. -/
theorem rescale (z : EReal) (m m' : ℝ) : Ideal.exp2 ((m : EReal) - m') * Ideal.exp2 (z - m) = Ideal.exp2 (z - m') := by
  induction z using EReal.rec with
  | bot => simp
  | top =>
    rw [EReal.top_sub_coe, EReal.top_sub_coe, ← EReal.coe_sub, Ideal.exp2_top, Ideal.exp2_coe, rpow_two]
    exact EReal.coe_mul_top_of_pos (Real.exp_pos _)
  | coe r =>
    rw [← EReal.coe_sub, ← EReal.coe_sub, ← EReal.coe_sub, Ideal.exp2_coe, Ideal.exp2_coe, Ideal.exp2_coe, ← EReal.coe_mul,
      rpow_two, rpow_two, rpow_two, ← Real.exp_add]
    congr 2; ring

theorem sup_range_add (z : ℕ → EReal) (n k : ℕ) :
    (Finset.range (n + k)).sup z = max ((Finset.range n).sup z) (Finset.univ.sup fun c : Fin k => z (n + c)) := by
  apply le_antisymm
  · refine Finset.sup_le fun s hs => ?_
    by_cases h : s < n
    · exact le_max_of_le_left (Finset.le_sup (Finset.mem_range.2 h))
    · refine le_max_of_le_right ?_
      have hk : s - n < k := by have := Finset.mem_range.1 hs; omega
      have := Finset.le_sup (f := fun c : Fin k => z (n + c)) (Finset.mem_univ ⟨s - n, hk⟩)
      simpa [Nat.add_sub_cancel' (not_lt.1 h)] using this
  · refine max_le (Finset.sup_mono fun s hs => ?_) (Finset.sup_le fun c _ => Finset.le_sup (f := z) ?_)
    · exact Finset.mem_range.2 (by have := Finset.mem_range.1 hs; omega)
    · exact Finset.mem_range.2 (by have := c.isLt; omega)

/-- One key block more.  `t` are the block's scores without the query's own decay `d`. -/
theorem inv_step (z W : ℕ → EReal) (hz : ∀ s, z s ≠ ⊤) (h0 : z 0 ≠ ⊥) (n k : ℕ) (hk : 0 < k) (m a : EReal)
    (h : Inv z W n m a) (d : ℝ) (t : Fin k → EReal) (ht : ∀ c : Fin k, t c + d = z (n + c)) (m' : EReal)
    (hm' : m' = max m (Finset.univ.sup t + d)) :
    Inv z W (n + k) m'
      (Ideal.exp2 (m - m') * a + ∑ c : Fin k, Ideal.exp2 (t c + (d - m')) * W (n + c)) := by
  obtain ⟨hm, ha⟩ := h
  have e1 : m' = (Finset.range (n + k)).sup z := by
    rw [hm', sup_add, sup_range_add, hm]; congr 1; exact Finset.sup_congr rfl fun c _ => ht c
  obtain ⟨r', hr'⟩ := sup_real z hz h0 (n := n + k) (by omega)
  rw [hr'] at e1
  refine ⟨e1.trans hr'.symm, ?_⟩
  rw [Finset.sum_range_add, Finset.sum_range (n := k)]
  congr 1
  · rcases Nat.eq_zero_or_pos n with rfl | hn
    · rw [ha]; simp
    · obtain ⟨r, hr⟩ := sup_real z hz h0 hn
      rw [hr] at hm
      rw [ha, e1, hm, mul_sum_real _ _ _ (exp2_nonneg _) (by
        rw [← EReal.coe_sub, Ideal.exp2_coe]; exact EReal.coe_ne_top _)]
      refine Finset.sum_congr rfl fun s _ => ?_
      rw [← mul_assoc, rescale]
  · refine Finset.sum_congr rfl fun c _ => ?_
    rw [← ht c, sub_eq_add_neg, sub_eq_add_neg, add_assoc]

/-- Base 2 on scaled scores is base e on the scores. -/
theorem exp2_scaled (Z : EReal) (M : ℝ) (hZ : Z ≠ ⊤) :
    Ideal.exp2 (Z * (((Real.log 2)⁻¹ : ℝ) : EReal) - (M : EReal) * (((Real.log 2)⁻¹ : ℝ) : EReal)) = Ideal.exp (Z - M) := by
  have hl : 0 < Real.log 2 := Real.log_pos (by norm_num)
  induction Z using EReal.rec with
  | bot => rw [EReal.bot_mul_coe_of_pos (by positivity)]; simp
  | top => exact absurd rfl hZ
  | coe r =>
    rw [← EReal.coe_mul, ← EReal.coe_mul, ← EReal.coe_sub, ← EReal.coe_sub, Ideal.exp2_coe, Ideal.exp_coe, rpow_two]
    congr 2; field_simp

/-- The sum of positive-or-zero weights over the keys, the greatest score among them, is a positive real. -/
theorem weights_real (N : ℕ) (Z : Fin N → EReal) (hZ : ∀ s, Z s ≠ ⊤) (M : ℝ) (hM : Finset.univ.sup Z = M) :
    ∃ L : ℝ, 0 < L ∧ ∑ s, Ideal.exp (Z s - M) = (L : EReal) := by
  have hx : ∀ s, ∃ e : ℝ, 0 ≤ e ∧ Ideal.exp (Z s - M) = (e : EReal) ∧ (Z s ≠ ⊥ → 0 < e) := by
    intro s
    rcases eq_or_ne (Z s) ⊥ with h | h
    · exact ⟨0, le_refl _, by simp [h], fun h' => absurd h h'⟩
    · obtain ⟨r, hr⟩ := real_of h (hZ s)
      exact ⟨Real.exp (r - M), (Real.exp_pos _).le, by rw [hr, ← EReal.coe_sub, Ideal.exp_coe], fun _ => Real.exp_pos _⟩
  choose e he0 he hpos using hx
  refine ⟨∑ s, e s, ?_, ?_⟩
  · have : ∃ s, Z s ≠ ⊥ := by
      by_contra hc; push Not at hc
      have : Finset.univ.sup Z = ⊥ := by rw [Finset.sup_eq_bot_iff]; intro s _; exact hc s
      rw [this] at hM; exact EReal.bot_ne_coe M hM
    obtain ⟨s, hs⟩ := this
    exact Finset.sum_pos' (fun s _ => he0 s) ⟨s, Finset.mem_univ _, hpos s hs⟩
  · rw [Finset.sum_congr rfl fun s _ => he s, coe_sum]

/-- The accumulated quotient is the softmax average.  `Z s` are the scores in base e over all `N` keys, minus
    infinity from key `n` on; the accumulation ran over the first `n` keys, its scores divided by `log 2`. -/
theorem softmax_eq (N n : ℕ) (hn : 0 < n) (hnN : n ≤ N) (Z : Fin N → EReal) (hZ : ∀ s, Z s ≠ ⊤)
    (z W : ℕ → EReal) (v : Fin N → EReal) (hz : ∀ s : Fin N, s.val < n → z s = Z s * (((Real.log 2)⁻¹ : ℝ) : EReal))
    (h0 : Z ⟨0, by omega⟩ ≠ ⊥) (hlate : ∀ s : Fin N, n ≤ s.val → Z s = ⊥)
    (hW : ∀ s : Fin N, s.val < n → W s = v s) (m a l : EReal)
    (ha : Inv z W n m a) (hl : Inv z (fun _ => 1) n m l) :
    Ideal.div a l = ∑ s, v s * Ideal.div (Ideal.exp (Z s - Finset.univ.sup Z)) (∑ s', Ideal.exp (Z s' - Finset.univ.sup Z)) := by
  have hlog : 0 < Real.log 2 := Real.log_pos (by norm_num)
  have hc : (0 : ℝ) < (Real.log 2)⁻¹ := by positivity
  obtain ⟨M, hM⟩ : ∃ M : ℝ, Finset.univ.sup Z = M :=
    real_of (fun h => h0 (le_bot_iff.1 (h ▸ Finset.le_sup (f := Z) (Finset.mem_univ _)))) (sup_ne_top _ _ fun s _ => hZ s)
  have hm : m = (M : EReal) * (((Real.log 2)⁻¹ : ℝ) : EReal) := by
    rw [ha.1, ← hM, sup_mul _ _ _ hc]
    apply le_antisymm
    · refine Finset.sup_le fun s hs => ?_
      have hs' := Finset.mem_range.1 hs
      have := Finset.le_sup (f := fun s => Z s * (((Real.log 2)⁻¹ : ℝ) : EReal)) (Finset.mem_univ (⟨s, by omega⟩ : Fin N))
      rw [hz ⟨s, by omega⟩ hs']; exact this
    · refine Finset.sup_le fun s _ => ?_
      by_cases h : s.val < n
      · rw [← hz s h]; exact Finset.le_sup (f := z) (Finset.mem_range.2 h)
      · rw [hlate s (not_lt.1 h), EReal.bot_mul_coe_of_pos hc]; exact bot_le
  -- a sum over the first `n` keys is one over all keys, the later weights being zero
  have key : ∀ (U : ℕ → EReal) (u : Fin N → EReal), (∀ s : Fin N, s.val < n → U s = u s) →
      ∑ s ∈ Finset.range n, Ideal.exp2 (z s - m) * U s = ∑ s : Fin N, Ideal.exp (Z s - M) * u s := by
    intro U u hU
    have e : ∑ s : Fin N, Ideal.exp (Z s - M) * u s = ∑ s : Fin N, (if s.val < n then Ideal.exp2 (z s - m) * U s else 0) := by
      refine Finset.sum_congr rfl fun s _ => ?_
      split_ifs with h
      · rw [hz s h, hm, exp2_scaled _ _ (hZ s), hU s h]
      · rw [hlate s (not_lt.1 h)]; simp
    rw [e, Finset.sum_fin_eq_sum_range, ← Finset.sum_subset (Finset.range_subset_range.2 hnN)]
    · refine Finset.sum_congr rfl fun s hs => ?_
      have h := Finset.mem_range.1 hs
      rw [dif_pos (by omega), if_pos h]
    · intro s hs hs'
      have h1 := Finset.mem_range.1 hs
      have h2 : ¬ s < n := fun h => hs' (Finset.mem_range.2 h)
      rw [dif_pos h1, if_neg h2]
  obtain ⟨L, hL, hLe⟩ := weights_real N Z hZ M hM
  have hl' : l = (L : EReal) := by
    rw [hl.2, key (fun _ => 1) (fun _ => 1) fun _ _ => rfl, ← hLe]; simp
  rw [hM, hLe, hl', ha.2, key W v hW, Ideal.div_coe hL.ne', mul_comm,
    mul_sum_real _ _ _ (EReal.coe_nonneg.2 (by positivity)) (EReal.coe_ne_top _)]
  refine Finset.sum_congr rfl fun s _ => ?_
  rw [Ideal.div_coe hL.ne']
  ac_rfl

end Cert.Fox

end
-- ==== Proof.Fox.Row.lean ====
/-
  One row of the attention's block: what each vector step does at one query and one column.
-/
module

public import proofs.«01_k».proof.Proof.Fox.Tile
public import proofs.«01_k».proof.Proof.Fox.Online
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.TcCoe Idealize.SL.Sem

/-- The constant the kernel names is one over log 2. -/
theorem log2e_val : (Named.named (F := Ideal) κ "log2e" (φ := .f32) 0x3FB8AA3B#32 : EReal) = (((Real.log 2)⁻¹ : ℝ) : EReal) := by
  simp [Named.named, κ]

/-- The pattern of minus infinity. -/
theorem negInf_val : Ideal.ofBits .f32 0xFF800000#32 = ⊥ := by simp [Ideal.ofBits, Ideal.ieee]

/-- A selection by two row or column numbers in order. -/
theorem select_sge {α : Type} (r c : ℕ) (hr : r < 4096) (hc : c < 4096) (x y : α) :
    Scalar.select (IntOp.cmpi .sge (BitVec.ofNat 32 r) (BitVec.ofNat 32 c)) x y = if c ≤ r then x else y := by
  rw [WordCmp.cmpi_sge_ofNat (by omega) (by omega), WordCmp.select_decide]

theorem scores_at (q k : Vec Ideal S1x512x128 .bf16) (d : Vec Ideal S1x1x512 .f32) (r c : Fin 512) :
    scores (F := Ideal) q k d (ix2 r c) = (∑ e : Fin 128, q (ix3 0 r e) * k (ix3 0 c e)) - d (ix3 0 0 c) * (((Real.log 2)⁻¹ : ℝ) : EReal) := by
  pointwise [scores, k0_pay20, k0_pay21, k0_pay16, log2e_val]

theorem diag_at (q k : Vec Ideal S1x512x128 .bf16) (d : Vec Ideal S1x1x512 .f32) (r c : Fin 512) :
    scoresDiag (F := Ideal) q k d (ix2 r c) = if c.val ≤ r.val then (∑ e : Fin 128, q (ix3 0 r e) * k (ix3 0 c e)) - d (ix3 0 0 c) * (((Real.log 2)⁻¹ : ℝ) : EReal) else ⊥ := by
  pointwise [scoresDiag, k0_pay10, k0_pay5, log2e_val]
  rw [select_sge _ _ (by omega) (by omega), negInf_val]

theorem decayQ_at (h : Fin 128) (dc : Vec Ideal S1x512x128 .f32) (r : Fin 512) :
    decayQ (F := Ideal) (BitVec.ofNat 32 h.val) dc (ix2 r 0) = dc (ix3 0 r h) * (((Real.log 2)⁻¹ : ℝ) : EReal) := by
  pointwise [decayQ, k0_pay7, lanes, log2e_val]
  congr 1
  rw [Finset.sum_eq_single h]
  · rw [WordCmp.cmpi_eq_ofNat (by omega) (by omega), WordCmp.select_decide, if_pos rfl]
  · intro l _ hl
    rw [WordCmp.cmpi_eq_ofNat (by omega) (by omega), WordCmp.select_decide, if_neg fun e => hl (Fin.ext e)]
  · intro hh; exact absurd (Finset.mem_univ _) hh

theorem maxT_at (m : FVec Ideal S512x1 .f32) (t : FVec Ideal S512x512 .f32) (dq : FVec Ideal S512x1 .f32) (r : Fin 512) :
    maxT m t dq (ix2 r 0) = max (m (ix2 r 0)) (Finset.univ.sup (fun c : Fin 512 => (t (ix2 r c) : EReal)) + dq (ix2 r 0)) := by
  pointwise [maxT]
  rw [negInf_val]; rfl

theorem accT_at_v (m m' : FVec Ideal S512x1 .f32) (a : FVec Ideal S512x256 .f32) (t : FVec Ideal S512x512 .f32) (dq : FVec Ideal S512x1 .f32)
    (v : Vec Ideal S1x512x128 .bf16) (r : Fin 512) (l : Fin 128) :
    accT m m' a t dq v (ix2 r ⟨l.val, by omega⟩) = Ideal.exp2 (m (ix2 r 0) - m' (ix2 r 0)) * a (ix2 r ⟨l.val, by omega⟩)
      + ∑ c : Fin 512, Ideal.exp2 (t (ix2 r c) + (dq (ix2 r 0) - m' (ix2 r 0))) * v (ix3 0 c l) := by
  pointwise [accT]
  rfl

theorem accT_at_one (m m' : FVec Ideal S512x1 .f32) (a : FVec Ideal S512x256 .f32) (t : FVec Ideal S512x512 .f32) (dq : FVec Ideal S512x1 .f32)
    (v : Vec Ideal S1x512x128 .bf16) (r : Fin 512) :
    accT m m' a t dq v (ix2 r 128) = Ideal.exp2 (m (ix2 r 0) - m' (ix2 r 0)) * a (ix2 r 128)
      + ∑ c : Fin 512, Ideal.exp2 (t (ix2 r c) + (dq (ix2 r 0) - m' (ix2 r 0))) * 1 := by
  pointwise [accT, k0_pay6]
  rfl

theorem finT_at (a : FVec Ideal S512x256 .f32) (r : Fin 512) (l : Fin 128) :
    finT a (ix3 0 r l) = Ideal.div (a (ix2 r ⟨l.val, by omega⟩)) (a (ix2 r 128)) := by
  pointwise [finT]

/-- The accumulation's state at row `r` after `n` keys. -/
def RowInv (z : ℕ → EReal) (V : ℕ → Fin 128 → EReal) (n : ℕ) (r : Fin 512) (s : St Ideal) : Prop :=
  (∀ l : Fin 128, Cert.Fox.Inv z (fun j => V j l) n (s.1 (ix2 r 0)) (s.2 (ix2 r ⟨l.val, by omega⟩)))
  ∧ Cert.Fox.Inv z (fun _ => 1) n (s.1 (ix2 r 0)) (s.2 (ix2 r 128))

theorem row_zero (z : ℕ → EReal) (V : ℕ → Fin 128 → EReal) (r : Fin 512) : RowInv z V 0 r (st0 (F := Ideal)) := by
  have h1 : (st0 (F := Ideal)).1 (ix2 r 0) = ⊥ := by simp only [st0]; pointwise [k0_pay8]; exact negInf_val
  have h2 : ∀ l : Fin 256, (st0 (F := Ideal)).2 (ix2 r l) = (0 : EReal) := by intro l; simp only [st0]; pointwise [k0_pay9]
  refine ⟨fun l => ?_, ?_⟩
  · rw [h1, h2]; exact Cert.Fox.inv_zero _ _
  · rw [h1, h2]; exact Cert.Fox.inv_zero _ _

theorem row_step (z : ℕ → EReal) (V : ℕ → Fin 128 → EReal) (hz : ∀ s, z s ≠ ⊤) (h0 : z 0 ≠ ⊥) (n : ℕ) (r : Fin 512) (s : St Ideal)
    (h : RowInv z V n r s) (t : FVec Ideal S512x512 .f32) (dq : FVec Ideal S512x1 .f32) (v : Vec Ideal S1x512x128 .bf16) (d : ℝ)
    (hd : dq (ix2 r 0) = (d : EReal)) (ht : ∀ c : Fin 512, (t (ix2 r c) : EReal) + (d : EReal) = z (n + c.val))
    (hv : ∀ (c : Fin 512) (l : Fin 128), v (ix3 0 c l) = V (n + c.val) l) : RowInv z V (n + 512) r (stepT s t dq v) := by
  have hm : (stepT s t dq v).1 (ix2 r 0) = max (s.1 (ix2 r 0)) (Finset.univ.sup (fun c : Fin 512 => (t (ix2 r c) : EReal)) + (d : EReal)) := by
    rw [← hd]; exact maxT_at _ _ _ r
  refine ⟨fun l => ?_, ?_⟩
  · have e : (stepT s t dq v).2 (ix2 r ⟨l.val, by omega⟩) = _ := accT_at_v s.1 (maxT s.1 t dq) s.2 t dq v r l
    rw [e, hd]
    simp only [hv]
    exact Cert.Fox.inv_step z (fun j => V j l) hz h0 n 512 (by norm_num) _ _ (h.1 l) d (fun c => t (ix2 r c)) ht _ hm
  · have e : (stepT s t dq v).2 (ix2 r 128) = _ := accT_at_one s.1 (maxT s.1 t dq) s.2 t dq v r
    rw [e, hd]
    exact Cert.Fox.inv_step z (fun _ => 1) hz h0 n 512 (by norm_num) _ _ h.2 d (fun c => t (ix2 r c)) ht _ hm

/-! ## A head: queries, keys, decays as real numbers, values as extended reals -/

section Head
variable (Q K : ℕ → Fin 128 → ℝ) (D : ℕ → ℝ) (V : ℕ → Fin 128 → EReal)

/-- The score of query `t` against key `s`: the scaled product, the decay between the two added; minus infinity
    for a key later than the query. -/
def logit (t s : ℕ) : EReal :=
  if s ≤ t then (((∑ e : Fin 128, Q t e / Real.sqrt 128 * K s e) + D t - D s : ℝ) : EReal) else ⊥

/-- The softmax average of the value rows that query `t` gets, at column `l`. -/
def attend (t : ℕ) (l : Fin 128) : EReal :=
  ∑ s : Fin 2048, V s l * Ideal.div (Ideal.exp (logit Q K D t s - Finset.univ.sup fun s' : Fin 2048 => logit Q K D t s'))
    (∑ s' : Fin 2048, Ideal.exp (logit Q K D t s' - Finset.univ.sup fun s' : Fin 2048 => logit Q K D t s'))

/-- The scores the accumulation sees: base 2. -/
def zed (t s : ℕ) : EReal := logit Q K D t s * (((Real.log 2)⁻¹ : ℝ) : EReal)

theorem logit_ne_top (t s : ℕ) : logit Q K D t s ≠ ⊤ := by
  unfold logit; split_ifs
  · exact EReal.coe_ne_top _
  · exact bot_ne_top

theorem zed_ne_top (t s : ℕ) : zed Q K D t s ≠ ⊤ := by
  unfold zed logit; split_ifs
  · rw [← EReal.coe_mul]; exact EReal.coe_ne_top _
  · rw [EReal.bot_mul_coe_of_pos (inv_pos.2 (Real.log_pos (by norm_num)))]; exact bot_ne_top

theorem logit_zero (t : ℕ) : logit Q K D t 0 ≠ ⊥ := by
  unfold logit; rw [if_pos (Nat.zero_le _)]; exact EReal.coe_ne_bot _

theorem zed_zero (t : ℕ) : zed Q K D t 0 ≠ ⊥ := by
  unfold zed logit; rw [if_pos (Nat.zero_le _), ← EReal.coe_mul]; exact EReal.coe_ne_bot _

/-- A query row as the kernel reads it: divided by the root of the head width and by log 2. -/
abbrev qScaled (t : ℕ) (e : Fin 128) : ℝ := Q t e * (1 / (Real.sqrt 128 * Real.log 2))

/-- The unmasked score in base 2, from what the kernel reads. -/
theorem raw_eq (t s : ℕ) :
    ((∑ e : Fin 128, ((qScaled Q t e : ℝ) : EReal) * (K s e : EReal)) - (D s : EReal) * (((Real.log 2)⁻¹ : ℝ) : EReal)) + ((D t * (Real.log 2)⁻¹ : ℝ) : EReal)
      = (((∑ e : Fin 128, Q t e / Real.sqrt 128 * K s e) + D t - D s : ℝ) : EReal) * (((Real.log 2)⁻¹ : ℝ) : EReal) := by
  simp only [← EReal.coe_mul]
  rw [Cert.Fox.coe_sum, ← EReal.coe_sub, ← EReal.coe_add]
  congr 1
  have : ∑ e : Fin 128, qScaled Q t e * K s e = (∑ e : Fin 128, Q t e / Real.sqrt 128 * K s e) * (Real.log 2)⁻¹ := by
    rw [Finset.sum_mul]
    refine Finset.sum_congr rfl fun e _ => ?_
    simp only [qScaled]; rw [one_div, mul_inv]; ring
  rw [this]; ring

variable (t n : ℕ) (r : Fin 512) (q k : Vec Ideal S1x512x128 .bf16) (d : Vec Ideal S1x1x512 .f32)
variable (hq : ∀ e, q (ix3 0 r e) = ((qScaled Q t e : ℝ) : EReal))
variable (hk : ∀ (c : Fin 512) e, k (ix3 0 c e) = (K (n + c.val) e : EReal)) (hd : ∀ c : Fin 512, d (ix3 0 0 c) = (D (n + c.val) : EReal))

include hq hk hd in
/-- A key block before the query's own: no key is masked. -/
theorem scores_zed (hn : n + 512 ≤ t) (c : Fin 512) :
    (scores (F := Ideal) q k d (ix2 r c) : EReal) + ((D t * (Real.log 2)⁻¹ : ℝ) : EReal) = zed Q K D t (n + c.val) := by
  rw [scores_at]; simp only [hq, hk, hd]
  unfold zed logit; rw [if_pos (by omega)]; exact raw_eq Q K D t (n + c.val)

include hq hk hd in
/-- The query's own key block. -/
theorem diag_zed (hn : t = n + r.val) (c : Fin 512) :
    (scoresDiag (F := Ideal) q k d (ix2 r c) : EReal) + ((D t * (Real.log 2)⁻¹ : ℝ) : EReal) = zed Q K D t (n + c.val) := by
  rw [diag_at]; simp only [hq, hk, hd]
  unfold zed logit
  by_cases h : c.val ≤ r.val
  · rw [if_pos h, if_pos (by omega)]; exact raw_eq Q K D t (n + c.val)
  · rw [if_neg h, if_neg (by omega), EReal.bot_mul_coe_of_pos (inv_pos.2 (Real.log_pos (by norm_num))), EReal.bot_add]

/-- From the accumulation's last state to the softmax average. -/
theorem fin_attend (s : St Ideal) (hn : t = n + r.val) (hN : n + 512 ≤ 2048) (h : RowInv (zed Q K D t) V (n + 512) r s) (l : Fin 128) :
    finT s.2 (ix3 0 r l) = attend Q K D V t l := by
  rw [finT_at]
  exact Cert.Fox.softmax_eq 2048 (n + 512) (by omega) hN (fun s => logit Q K D t s) (fun s => logit_ne_top Q K D t s) (zed Q K D t)
    (fun j => V j l) (fun s => V s l) (fun s _ => rfl) (logit_zero Q K D t)
    (fun s hs => by unfold logit; rw [if_neg (by omega)]) (fun s _ => rfl) _ _ _ (h.1 l) h.2

end Head

/-! ## The four query blocks -/

section Tiles
variable (Q K : ℕ → Fin 128 → ℝ) (D : ℕ → ℝ) (V : ℕ → Fin 128 → EReal)

/-- A block of 512 queries, keys or values that starts at row `n`. -/
def Rows (x : Vec Ideal S1x512x128 .bf16) (f : ℕ → Fin 128 → EReal) (n : ℕ) : Prop := ∀ (c : Fin 512) e, x (ix3 0 c e) = f (n + c.val) e
/-- The decays of a block of 512 keys. -/
def Decays (x : Vec Ideal S1x1x512 .f32) (n : ℕ) : Prop := ∀ c : Fin 512, x (ix3 0 0 c) = (D (n + c.val) : EReal)

variable (h : Fin 128) (q : Vec Ideal S1x512x128 .bf16) (dc : Vec Ideal S1x512x128 .f32)
variable (k0 k1 k2 k3 v0 v1 v2 v3 : Vec Ideal S1x512x128 .bf16) (d0 d1 d2 d3 : Vec Ideal S1x1x512 .f32)
variable (hk0 : Rows k0 (fun s e => (K s e : EReal)) 0) (hk1 : Rows k1 (fun s e => (K s e : EReal)) 512) (hk2 : Rows k2 (fun s e => (K s e : EReal)) 1024) (hk3 : Rows k3 (fun s e => (K s e : EReal)) 1536)
variable (hv0 : Rows v0 V 0) (hv1 : Rows v1 V 512) (hv2 : Rows v2 V 1024) (hv3 : Rows v3 V 1536)
variable (hd0 : Decays D d0 0) (hd1 : Decays D d1 512) (hd2 : Decays D d2 1024) (hd3 : Decays D d3 1536)
variable (n : ℕ) (hq : Rows q (fun s e => ((qScaled Q s e : ℝ) : EReal)) n) (hdc : ∀ c : Fin 512, dc (ix3 0 c h) = (D (n + c.val) : EReal))
variable (r : Fin 512) (l : Fin 128)

include hdc in
theorem decay_row : decayQ (F := Ideal) (BitVec.ofNat 32 h.val) dc (ix2 r 0) = ((D (n + r.val) * (Real.log 2)⁻¹ : ℝ) : EReal) := by
  rw [decayQ_at, hdc, EReal.coe_mul]

include hk0 hv0 hd0 hq hdc in
theorem row_s1 (hn : 512 ≤ n) : RowInv (zed Q K D (n + r.val)) V 512 r (s1 (BitVec.ofNat 32 h.val) q dc k0 v0 d0) := by
  have := row_step (zed Q K D (n + r.val)) V (zed_ne_top _ _ _ _) (zed_zero _ _ _ _) 0 r _ (row_zero _ V r) (scores q k0 d0) (decayQ (BitVec.ofNat 32 h.val) dc) v0 _
    (decay_row D h dc n hdc r) (scores_zed Q K D _ 0 r q k0 d0 (hq r) hk0 hd0 (by omega)) hv0
  exact this

include hk0 hv0 hd0 hk1 hv1 hd1 hq hdc in
theorem row_s2 (hn : 1024 ≤ n) : RowInv (zed Q K D (n + r.val)) V 1024 r (s2 (BitVec.ofNat 32 h.val) q dc k0 k1 v0 v1 d0 d1) :=
  row_step (zed Q K D (n + r.val)) V (zed_ne_top _ _ _ _) (zed_zero _ _ _ _) 512 r _ (row_s1 Q K D V h q dc k0 v0 d0 hk0 hv0 hd0 n hq hdc r (by omega)) (scores q k1 d1) (decayQ (BitVec.ofNat 32 h.val) dc) v1 _
    (decay_row D h dc n hdc r) (scores_zed Q K D _ 512 r q k1 d1 (hq r) hk1 hd1 (by omega)) hv1

include hk0 hv0 hd0 hk1 hv1 hd1 hk2 hv2 hd2 hq hdc in
theorem row_s3 (hn : 1536 ≤ n) : RowInv (zed Q K D (n + r.val)) V 1536 r (s3 (BitVec.ofNat 32 h.val) q dc k0 k1 k2 v0 v1 v2 d0 d1 d2) :=
  row_step (zed Q K D (n + r.val)) V (zed_ne_top _ _ _ _) (zed_zero _ _ _ _) 1024 r _ (row_s2 Q K D V h q dc k0 k1 v0 v1 d0 d1 hk0 hk1 hv0 hv1 hd0 hd1 n hq hdc r (by omega)) (scores q k2 d2) (decayQ (BitVec.ofNat 32 h.val) dc) v2 _
    (decay_row D h dc n hdc r) (scores_zed Q K D _ 1024 r q k2 d2 (hq r) hk2 hd2 (by omega)) hv2

include hk0 hv0 hd0 hq hdc in
theorem tile0_at (hn : n = 0) : tile0 (BitVec.ofNat 32 h.val) q dc k0 v0 d0 (ix3 0 r l) = attend Q K D V (n + r.val) l := by
  subst hn
  exact fin_attend Q K D V _ 0 r _ rfl (by norm_num) (row_step (zed Q K D (0 + r.val)) V (zed_ne_top _ _ _ _) (zed_zero _ _ _ _) 0 r _ (row_zero _ V r) (scoresDiag q k0 d0) (decayQ (BitVec.ofNat 32 h.val) dc) v0 _
    (decay_row D h dc 0 hdc r) (diag_zed Q K D _ 0 r q k0 d0 (hq r) hk0 hd0 rfl) hv0) l

include hk0 hv0 hd0 hk1 hv1 hd1 hq hdc in
theorem tile1_at (hn : n = 512) : tile1 (BitVec.ofNat 32 h.val) q dc k0 k1 v0 v1 d0 d1 (ix3 0 r l) = attend Q K D V (n + r.val) l := by
  subst hn
  exact fin_attend Q K D V _ 512 r _ rfl (by norm_num) (row_step (zed Q K D (512 + r.val)) V (zed_ne_top _ _ _ _) (zed_zero _ _ _ _) 512 r _ (row_s1 Q K D V h q dc k0 v0 d0 hk0 hv0 hd0 512 hq hdc r (by omega)) (scoresDiag q k1 d1) (decayQ (BitVec.ofNat 32 h.val) dc) v1 _
    (decay_row D h dc 512 hdc r) (diag_zed Q K D _ 512 r q k1 d1 (hq r) hk1 hd1 rfl) hv1) l

include hk0 hv0 hd0 hk1 hv1 hd1 hk2 hv2 hd2 hq hdc in
theorem tile2_at (hn : n = 1024) : tile2 (BitVec.ofNat 32 h.val) q dc k0 k1 k2 v0 v1 v2 d0 d1 d2 (ix3 0 r l) = attend Q K D V (n + r.val) l := by
  subst hn
  exact fin_attend Q K D V _ 1024 r _ rfl (by norm_num) (row_step (zed Q K D (1024 + r.val)) V (zed_ne_top _ _ _ _) (zed_zero _ _ _ _) 1024 r _ (row_s2 Q K D V h q dc k0 k1 v0 v1 d0 d1 hk0 hk1 hv0 hv1 hd0 hd1 1024 hq hdc r (by omega)) (scoresDiag q k2 d2) (decayQ (BitVec.ofNat 32 h.val) dc) v2 _
    (decay_row D h dc 1024 hdc r) (diag_zed Q K D _ 1024 r q k2 d2 (hq r) hk2 hd2 rfl) hv2) l

include hk0 hv0 hd0 hk1 hv1 hd1 hk2 hv2 hd2 hk3 hv3 hd3 hq hdc in
theorem tile3_at (hn : n = 1536) : tile3 (BitVec.ofNat 32 h.val) q dc k0 k1 k2 k3 v0 v1 v2 v3 d0 d1 d2 d3 (ix3 0 r l) = attend Q K D V (n + r.val) l := by
  subst hn
  exact fin_attend Q K D V _ 1536 r _ rfl (by norm_num) (row_step (zed Q K D (1536 + r.val)) V (zed_ne_top _ _ _ _) (zed_zero _ _ _ _) 1536 r _ (row_s3 Q K D V h q dc k0 k1 k2 v0 v1 v2 d0 d1 d2 hk0 hk1 hk2 hv0 hv1 hv2 hd0 hd1 hd2 1536 hq hdc r (by omega)) (scoresDiag q k3 d3) (decayQ (BitVec.ofNat 32 h.val) dc) v3 _
    (decay_row D h dc 1536 hdc r) (diag_zed Q K D _ 1536 r q k3 d3 (hq r) hk3 hd3 rfl) hv3) l

end Tiles

end Cert.KernelIdeal.Fox

end
-- ==== Proof.Fox.Block.lean ====
/-
  The attention's output block of one grid point: two heads side by side, all 2048 queries of each.
-/
module

public import proofs.«01_k».proof.Proof.Fox.Row
public import Idealize.ShloMosaic.Lib.Pipeline.ValueKit

@[expose] public section

set_option maxRecDepth 16384

noncomputable section

namespace Cert.KernelIdeal.Fox

open Cert.KernelIdeal Cert.KernelIdeal.Gen
open Idealize.ShloMosaic Idealize.ShloMosaic.TcCoe Idealize.SL.Sem

/-- The word of a head number below 16. -/
theorem headW_eq (i : grid0.Coords) (hd : ℕ) (h : hd < 2) (hi : (i 1).val < 8) :
    headW i (BitVec.ofNat 32 hd) = BitVec.ofNat 32 (2 * (i 1).val + hd) := by
  apply BitVec.eq_of_toNat_eq
  simp only [headW, Scalar.addi, Scalar.muli, IntOp.addi, IntOp.muli, BitVec.toNat_add, BitVec.toNat_mul, BitVec.toNat_ofNat]
  omega

/-- An index of a block of 512 rows is a row and a column. -/
theorem tile_idx (x : S1x512x128.Idx) : ∃ (r : Fin 512) (l : Fin 128), x = ix3 0 r l ∧ r.val = (x 1).val ∧ l.val = (x 2).val := by
  idx_vars x
  exact ⟨x1, x2, by idx_ext <;> omega, rfl, rfl⟩

section
theorem mod_128 (n : ℕ) : n % 128 < 128 := Nat.mod_lt _ (by norm_num)

theorem head_lt {n h : ℕ} (hn : n < 8) (hh : h < 2) : 2 * n + h < 128 := by omega

variable (x0 x1 x2 : Vec Ideal S1x2048x256 .bf16) (x3 : Vec Ideal S1x2048x128 .f32) (x4 : Vec Ideal S1x2x2048 .f32)
variable (x5 : Vec Ideal S1x64x8192 .f32) (x6 : Vec Ideal S1x256x2048 .f32) (x7 : Vec Ideal S1x64x2048 .f32)
variable (Q K : ℕ → ℕ → Fin 128 → ℝ) (D : ℕ → ℕ → ℝ) (V : ℕ → ℕ → Fin 128 → EReal)
variable (a0 : ∀ (s : Fin 2048) (c : Fin 256), x0 (ix3 0 s c) = ((qScaled (Q (c.val / 128)) s.val ⟨c.val % 128, mod_128 _⟩ : ℝ) : EReal))
variable (a1 : ∀ (s : Fin 2048) (c : Fin 256), x1 (ix3 0 s c) = (K (c.val / 128) s.val ⟨c.val % 128, mod_128 _⟩ : EReal))
variable (a2 : ∀ (s : Fin 2048) (c : Fin 256), x2 (ix3 0 s c) = V (c.val / 128) s.val ⟨c.val % 128, mod_128 _⟩)
variable (a4 : ∀ (h : Fin 2) (s : Fin 2048), x4 (ix3 0 h s) = (D h.val s.val : EReal))

include a0 in
theorem rows_q (x : Vec Ideal S1x512x128 .bf16) (n hd : ℕ) (hn : n ≤ 1536) (hh : hd < 2)
    (hx : ∀ (c : Fin 512) (e : Fin 128), x (ix3 0 c e) = x0 (ix3 0 ⟨n + c.val, by omega⟩ ⟨128 * hd + e.val, by omega⟩)) :
    Rows x (fun s e => ((qScaled (Q hd) s e : ℝ) : EReal)) n := by
  intro c e
  have e1 : (128 * hd + e.val) / 128 = hd := by omega
  have e2 : (⟨(128 * hd + e.val) % 128, Nat.mod_lt _ (by norm_num)⟩ : Fin 128) = e := Fin.ext (by simp only []; omega)
  rw [hx, a0]; simp only [e1, e2]

include a1 in
theorem rows_k (x : Vec Ideal S1x512x128 .bf16) (n hd : ℕ) (hn : n ≤ 1536) (hh : hd < 2)
    (hx : ∀ (c : Fin 512) (e : Fin 128), x (ix3 0 c e) = x1 (ix3 0 ⟨n + c.val, by omega⟩ ⟨128 * hd + e.val, by omega⟩)) :
    Rows x (fun s e => (K hd s e : EReal)) n := by
  intro c e
  have e1 : (128 * hd + e.val) / 128 = hd := by omega
  have e2 : (⟨(128 * hd + e.val) % 128, Nat.mod_lt _ (by norm_num)⟩ : Fin 128) = e := Fin.ext (by simp only []; omega)
  rw [hx, a1]; simp only [e1, e2]

include a2 in
theorem rows_v (x : Vec Ideal S1x512x128 .bf16) (n hd : ℕ) (hn : n ≤ 1536) (hh : hd < 2)
    (hx : ∀ (c : Fin 512) (e : Fin 128), x (ix3 0 c e) = x2 (ix3 0 ⟨n + c.val, by omega⟩ ⟨128 * hd + e.val, by omega⟩)) :
    Rows x (V hd) n := by
  intro c e
  have e1 : (128 * hd + e.val) / 128 = hd := by omega
  have e2 : (⟨(128 * hd + e.val) % 128, Nat.mod_lt _ (by norm_num)⟩ : Fin 128) = e := Fin.ext (by simp only []; omega)
  rw [hx, a2]; simp only [e1, e2]

include a4 in
theorem decays_k (x : Vec Ideal S1x1x512 .f32) (n : ℕ) (hd : Fin 2) (hn : n ≤ 1536)
    (hx : ∀ (c : Fin 512), x (ix3 0 0 c) = x4 (ix3 0 hd ⟨n + c.val, by omega⟩)) : Decays (D hd) x n := by
  intro c; rw [hx, a4]

variable (i : grid0.Coords) (hi : (i 1).val < 8)
variable (a3 : ∀ (s : Fin 2048) (h : Fin 2), x3 (ix3 0 s ⟨2 * (i 1).val + h.val, head_lt hi h.isLt⟩) = (D h.val s.val : EReal))

include a3 in
theorem decays_q (x : Vec Ideal S1x512x128 .f32) (n : ℕ) (hd : Fin 2) (hn : n ≤ 1536)
    (hx : ∀ (c : Fin 512) (l : Fin 128), x (ix3 0 c l) = x3 (ix3 0 ⟨n + c.val, by omega⟩ l)) (c : Fin 512) :
    x (ix3 0 c ⟨2 * (i 1).val + hd.val, by omega⟩) = (D hd (n + c.val) : EReal) := by
  rw [hx, a3]

include a0 a1 a2 a3 a4 in
theorem out8_at (y : S1x2048x256.Idx) :
    out0_8 i x0 x1 x2 x3 x4 x5 x6 x7 y
      = attend (Q ((y 2).val / 128)) (K ((y 2).val / 128)) (D ((y 2).val / 128)) (V ((y 2).val / 128)) (y 1).val ⟨(y 2).val % 128, mod_128 _⟩ := by
  rw [out8_eq]
  canon_tiles x h
  case piece0 =>
    obtain ⟨r, l, hx, hr, hl⟩ := tile_idx x
    have b1 : (y 2).val / 128 = 1 := by omega
    have b2 : (⟨(y 2).val % 128, Nat.mod_lt _ (by norm_num)⟩ : Fin 128) = l := Fin.ext (by simp only []; omega)
    rw [b1, b2, show (y 1).val = 1536 + r.val by omega, hx, show headW i 1#32 = BitVec.ofNat 32 (2 * (i 1).val + 1) from headW_eq i 1 (by norm_num) hi]
    refine tile3_at (Q 1) (K 1) (D 1) (V 1) ⟨2 * (i 1).val + 1, by omega⟩ _ _ _ _ _ _ _ _ _ _ _ _ _ _ ?_ ?_ ?_ ?_ ?_ ?_ ?_ ?_ ?_ ?_ ?_ ?_ 1536 ?_ ?_ r l rfl
    · exact rows_k x1 K a1 _ 0 1 (by norm_num) (by norm_num) (fun c e => by pointwise <;> blk_ext)
    · exact rows_k x1 K a1 _ 512 1 (by norm_num) (by norm_num) (fun c e => by pointwise <;> blk_ext)
    · exact rows_k x1 K a1 _ 1024 1 (by norm_num) (by norm_num) (fun c e => by pointwise <;> blk_ext)
    · exact rows_k x1 K a1 _ 1536 1 (by norm_num) (by norm_num) (fun c e => by pointwise <;> blk_ext)
    · exact rows_v x2 V a2 _ 0 1 (by norm_num) (by norm_num) (fun c e => by pointwise <;> blk_ext)
    · exact rows_v x2 V a2 _ 512 1 (by norm_num) (by norm_num) (fun c e => by pointwise <;> blk_ext)
    · exact rows_v x2 V a2 _ 1024 1 (by norm_num) (by norm_num) (fun c e => by pointwise <;> blk_ext)
    · exact rows_v x2 V a2 _ 1536 1 (by norm_num) (by norm_num) (fun c e => by pointwise <;> blk_ext)
    · exact decays_k x4 D a4 _ 0 1 (by norm_num) (fun c => by pointwise <;> blk_ext)
    · exact decays_k x4 D a4 _ 512 1 (by norm_num) (fun c => by pointwise <;> blk_ext)
    · exact decays_k x4 D a4 _ 1024 1 (by norm_num) (fun c => by pointwise <;> blk_ext)
    · exact decays_k x4 D a4 _ 1536 1 (by norm_num) (fun c => by pointwise <;> blk_ext)
    · exact rows_q x0 Q a0 _ 1536 1 (by norm_num) (by norm_num) (fun c e => by pointwise <;> blk_ext)
    · exact decays_q x3 D i hi a3 _ 1536 1 (by norm_num) (fun c e => by pointwise <;> blk_ext)
  case piece1 =>
    obtain ⟨r, l, hx, hr, hl⟩ := tile_idx x
    have b1 : (y 2).val / 128 = 1 := by omega
    have b2 : (⟨(y 2).val % 128, Nat.mod_lt _ (by norm_num)⟩ : Fin 128) = l := Fin.ext (by simp only []; omega)
    rw [b1, b2, show (y 1).val = 1024 + r.val by omega, hx, show headW i 1#32 = BitVec.ofNat 32 (2 * (i 1).val + 1) from headW_eq i 1 (by norm_num) hi]
    refine tile2_at (Q 1) (K 1) (D 1) (V 1) ⟨2 * (i 1).val + 1, by omega⟩ _ _ _ _ _ _ _ _ _ _ _ ?_ ?_ ?_ ?_ ?_ ?_ ?_ ?_ ?_ 1024 ?_ ?_ r l rfl
    · exact rows_k x1 K a1 _ 0 1 (by norm_num) (by norm_num) (fun c e => by pointwise <;> blk_ext)
    · exact rows_k x1 K a1 _ 512 1 (by norm_num) (by norm_num) (fun c e => by pointwise <;> blk_ext)
    · exact rows_k x1 K a1 _ 1024 1 (by norm_num) (by norm_num) (fun c e => by pointwise <;> blk_ext)
    · exact rows_v x2 V a2 _ 0 1 (by norm_num) (by norm_num) (fun c e => by pointwise <;> blk_ext)
    · exact rows_v x2 V a2 _ 512 1 (by norm_num) (by norm_num) (fun c e => by pointwise <;> blk_ext)
    · exact rows_v x2 V a2 _ 1024 1 (by norm_num) (by norm_num) (fun c e => by pointwise <;> blk_ext)
    · exact decays_k x4 D a4 _ 0 1 (by norm_num) (fun c => by pointwise <;> blk_ext)
    · exact decays_k x4 D a4 _ 512 1 (by norm_num) (fun c => by pointwise <;> blk_ext)
    · exact decays_k x4 D a4 _ 1024 1 (by norm_num) (fun c => by pointwise <;> blk_ext)
    · exact rows_q x0 Q a0 _ 1024 1 (by norm_num) (by norm_num) (fun c e => by pointwise <;> blk_ext)
    · exact decays_q x3 D i hi a3 _ 1024 1 (by norm_num) (fun c e => by pointwise <;> blk_ext)
  case piece2 =>
    obtain ⟨r, l, hx, hr, hl⟩ := tile_idx x
    have b1 : (y 2).val / 128 = 1 := by omega
    have b2 : (⟨(y 2).val % 128, Nat.mod_lt _ (by norm_num)⟩ : Fin 128) = l := Fin.ext (by simp only []; omega)
    rw [b1, b2, show (y 1).val = 512 + r.val by omega, hx, show headW i 1#32 = BitVec.ofNat 32 (2 * (i 1).val + 1) from headW_eq i 1 (by norm_num) hi]
    refine tile1_at (Q 1) (K 1) (D 1) (V 1) ⟨2 * (i 1).val + 1, by omega⟩ _ _ _ _ _ _ _ _ ?_ ?_ ?_ ?_ ?_ ?_ 512 ?_ ?_ r l rfl
    · exact rows_k x1 K a1 _ 0 1 (by norm_num) (by norm_num) (fun c e => by pointwise <;> blk_ext)
    · exact rows_k x1 K a1 _ 512 1 (by norm_num) (by norm_num) (fun c e => by pointwise <;> blk_ext)
    · exact rows_v x2 V a2 _ 0 1 (by norm_num) (by norm_num) (fun c e => by pointwise <;> blk_ext)
    · exact rows_v x2 V a2 _ 512 1 (by norm_num) (by norm_num) (fun c e => by pointwise <;> blk_ext)
    · exact decays_k x4 D a4 _ 0 1 (by norm_num) (fun c => by pointwise <;> blk_ext)
    · exact decays_k x4 D a4 _ 512 1 (by norm_num) (fun c => by pointwise <;> blk_ext)
    · exact rows_q x0 Q a0 _ 512 1 (by norm_num) (by norm_num) (fun c e => by pointwise <;> blk_ext)
    · exact decays_q x3 D i hi a3 _ 512 1 (by norm_num) (fun c e => by pointwise <;> blk_ext)
  case piece3 =>
    obtain ⟨r, l, hx, hr, hl⟩ := tile_idx x
    have b1 : (y 2).val / 128 = 1 := by omega
    have b2 : (⟨(y 2).val % 128, Nat.mod_lt _ (by norm_num)⟩ : Fin 128) = l := Fin.ext (by simp only []; omega)
    rw [b1, b2, show (y 1).val = 0 + r.val by omega, hx, show headW i 1#32 = BitVec.ofNat 32 (2 * (i 1).val + 1) from headW_eq i 1 (by norm_num) hi]
    refine tile0_at (Q 1) (K 1) (D 1) (V 1) ⟨2 * (i 1).val + 1, by omega⟩ _ _ _ _ _ ?_ ?_ ?_ 0 ?_ ?_ r l rfl
    · exact rows_k x1 K a1 _ 0 1 (by norm_num) (by norm_num) (fun c e => by pointwise <;> blk_ext)
    · exact rows_v x2 V a2 _ 0 1 (by norm_num) (by norm_num) (fun c e => by pointwise <;> blk_ext)
    · exact decays_k x4 D a4 _ 0 1 (by norm_num) (fun c => by pointwise <;> blk_ext)
    · exact rows_q x0 Q a0 _ 0 1 (by norm_num) (by norm_num) (fun c e => by pointwise <;> blk_ext)
    · exact decays_q x3 D i hi a3 _ 0 1 (by norm_num) (fun c e => by pointwise <;> blk_ext)
  case piece4 =>
    obtain ⟨r, l, hx, hr, hl⟩ := tile_idx x
    have b1 : (y 2).val / 128 = 0 := by omega
    have b2 : (⟨(y 2).val % 128, Nat.mod_lt _ (by norm_num)⟩ : Fin 128) = l := Fin.ext (by simp only []; omega)
    rw [b1, b2, show (y 1).val = 1536 + r.val by omega, hx, show headW i 0#32 = BitVec.ofNat 32 (2 * (i 1).val + 0) from headW_eq i 0 (by norm_num) hi]
    refine tile3_at (Q 0) (K 0) (D 0) (V 0) ⟨2 * (i 1).val + 0, by omega⟩ _ _ _ _ _ _ _ _ _ _ _ _ _ _ ?_ ?_ ?_ ?_ ?_ ?_ ?_ ?_ ?_ ?_ ?_ ?_ 1536 ?_ ?_ r l rfl
    · exact rows_k x1 K a1 _ 0 0 (by norm_num) (by norm_num) (fun c e => by pointwise <;> blk_ext)
    · exact rows_k x1 K a1 _ 512 0 (by norm_num) (by norm_num) (fun c e => by pointwise <;> blk_ext)
    · exact rows_k x1 K a1 _ 1024 0 (by norm_num) (by norm_num) (fun c e => by pointwise <;> blk_ext)
    · exact rows_k x1 K a1 _ 1536 0 (by norm_num) (by norm_num) (fun c e => by pointwise <;> blk_ext)
    · exact rows_v x2 V a2 _ 0 0 (by norm_num) (by norm_num) (fun c e => by pointwise <;> blk_ext)
    · exact rows_v x2 V a2 _ 512 0 (by norm_num) (by norm_num) (fun c e => by pointwise <;> blk_ext)
    · exact rows_v x2 V a2 _ 1024 0 (by norm_num) (by norm_num) (fun c e => by pointwise <;> blk_ext)
    · exact rows_v x2 V a2 _ 1536 0 (by norm_num) (by norm_num) (fun c e => by pointwise <;> blk_ext)
    · exact decays_k x4 D a4 _ 0 0 (by norm_num) (fun c => by pointwise <;> blk_ext)
    · exact decays_k x4 D a4 _ 512 0 (by norm_num) (fun c => by pointwise <;> blk_ext)
    · exact decays_k x4 D a4 _ 1024 0 (by norm_num) (fun c => by pointwise <;> blk_ext)
    · exact decays_k x4 D a4 _ 1536 0 (by norm_num) (fun c => by pointwise <;> blk_ext)
    · exact rows_q x0 Q a0 _ 1536 0 (by norm_num) (by norm_num) (fun c e => by pointwise <;> blk_ext)
    · exact decays_q x3 D i hi a3 _ 1536 0 (by norm_num) (fun c e => by pointwise <;> blk_ext)
  case piece5 =>
    obtain ⟨r, l, hx, hr, hl⟩ := tile_idx x
    have b1 : (y 2).val / 128 = 0 := by omega
    have b2 : (⟨(y 2).val % 128, Nat.mod_lt _ (by norm_num)⟩ : Fin 128) = l := Fin.ext (by simp only []; omega)
    rw [b1, b2, show (y 1).val = 1024 + r.val by omega, hx, show headW i 0#32 = BitVec.ofNat 32 (2 * (i 1).val + 0) from headW_eq i 0 (by norm_num) hi]
    refine tile2_at (Q 0) (K 0) (D 0) (V 0) ⟨2 * (i 1).val + 0, by omega⟩ _ _ _ _ _ _ _ _ _ _ _ ?_ ?_ ?_ ?_ ?_ ?_ ?_ ?_ ?_ 1024 ?_ ?_ r l rfl
    · exact rows_k x1 K a1 _ 0 0 (by norm_num) (by norm_num) (fun c e => by pointwise <;> blk_ext)
    · exact rows_k x1 K a1 _ 512 0 (by norm_num) (by norm_num) (fun c e => by pointwise <;> blk_ext)
    · exact rows_k x1 K a1 _ 1024 0 (by norm_num) (by norm_num) (fun c e => by pointwise <;> blk_ext)
    · exact rows_v x2 V a2 _ 0 0 (by norm_num) (by norm_num) (fun c e => by pointwise <;> blk_ext)
    · exact rows_v x2 V a2 _ 512 0 (by norm_num) (by norm_num) (fun c e => by pointwise <;> blk_ext)
    · exact rows_v x2 V a2 _ 1024 0 (by norm_num) (by norm_num) (fun c e => by pointwise <;> blk_ext)
    · exact decays_k x4 D a4 _ 0 0 (by norm_num) (fun c => by pointwise <;> blk_ext)
    · exact decays_k x4 D a4 _ 512 0 (by norm_num) (fun c => by pointwise <;> blk_ext)
    · exact decays_k x4 D a4 _ 1024 0 (by norm_num) (fun c => by pointwise <;> blk_ext)
    · exact rows_q x0 Q a0 _ 1024 0 (by norm_num) (by norm_num) (fun c e => by pointwise <;> blk_ext)
    · exact decays_q x3 D i hi a3 _ 1024 0 (by norm_num) (fun c e => by pointwise <;> blk_ext)
  case piece6 =>
    obtain ⟨r, l, hx, hr, hl⟩ := tile_idx x
    have b1 : (y 2).val / 128 = 0 := by omega
    have b2 : (⟨(y 2).val % 128, Nat.mod_lt _ (by norm_num)⟩ : Fin 128) = l := Fin.ext (by simp only []; omega)
    rw [b1, b2, show (y 1).val = 512 + r.val by omega, hx, show headW i 0#32 = BitVec.ofNat 32 (2 * (i 1).val + 0) from headW_eq i 0 (by norm_num) hi]
    refine tile1_at (Q 0) (K 0) (D 0) (V 0) ⟨2 * (i 1).val + 0, by omega⟩ _ _ _ _ _ _ _ _ ?_ ?_ ?_ ?_ ?_ ?_ 512 ?_ ?_ r l rfl
    · exact rows_k x1 K a1 _ 0 0 (by norm_num) (by norm_num) (fun c e => by pointwise <;> blk_ext)
    · exact rows_k x1 K a1 _ 512 0 (by norm_num) (by norm_num) (fun c e => by pointwise <;> blk_ext)
    · exact rows_v x2 V a2 _ 0 0 (by norm_num) (by norm_num) (fun c e => by pointwise <;> blk_ext)
    · exact rows_v x2 V a2 _ 512 0 (by norm_num) (by norm_num) (fun c e => by pointwise <;> blk_ext)
    · exact decays_k x4 D a4 _ 0 0 (by norm_num) (fun c => by pointwise <;> blk_ext)
    · exact decays_k x4 D a4 _ 512 0 (by norm_num) (fun c => by pointwise <;> blk_ext)
    · exact rows_q x0 Q a0 _ 512 0 (by norm_num) (by norm_num) (fun c e => by pointwise <;> blk_ext)
    · exact decays_q x3 D i hi a3 _ 512 0 (by norm_num) (fun c e => by pointwise <;> blk_ext)
  case piece7 =>
    obtain ⟨r, l, hx, hr, hl⟩ := tile_idx x
    have b1 : (y 2).val / 128 = 0 := by omega
    have b2 : (⟨(y 2).val % 128, Nat.mod_lt _ (by norm_num)⟩ : Fin 128) = l := Fin.ext (by simp only []; omega)
    rw [b1, b2, show (y 1).val = 0 + r.val by omega, hx, show headW i 0#32 = BitVec.ofNat 32 (2 * (i 1).val + 0) from headW_eq i 0 (by norm_num) hi]
    refine tile0_at (Q 0) (K 0) (D 0) (V 0) ⟨2 * (i 1).val + 0, by omega⟩ _ _ _ _ _ ?_ ?_ ?_ 0 ?_ ?_ r l rfl
    · exact rows_k x1 K a1 _ 0 0 (by norm_num) (by norm_num) (fun c e => by pointwise <;> blk_ext)
    · exact rows_v x2 V a2 _ 0 0 (by norm_num) (by norm_num) (fun c e => by pointwise <;> blk_ext)
    · exact decays_k x4 D a4 _ 0 0 (by norm_num) (fun c => by pointwise <;> blk_ext)
    · exact rows_q x0 Q a0 _ 0 0 (by norm_num) (by norm_num) (fun c e => by pointwise <;> blk_ext)
    · exact decays_q x3 D i hi a3 _ 0 0 (by norm_num) (fun c e => by pointwise <;> blk_ext)

end

end Cert.KernelIdeal.Fox

end
-- ==== Proof.Fox.Spec.lean ====
/-
  The attention of one batch row and one head as entries of the caller's arrays.
-/
module

public import proofs.«01_k».proof.Proof.Fox.Row

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)

theorem bits_128 : Ideal.ofBits .f32 0x43000000#32 = ((128 : ℝ) : EReal) := by
  simp [Ideal.ofBits, Ideal.ieee, -EReal.coe_mul]; norm_num

/-- Entry `e` of head `h` in row `t` of batch row `b`. -/
def part (x : FVec Ideal S4x2048x2048 .f32) (b : Fin 4) (h t : ℕ) (e : Fin 128) : EReal :=
  x (ix3 b ⟨t % 2048, Nat.mod_lt _ (by norm_num)⟩ ⟨(128 * h + e.val) % 2048, Nat.mod_lt _ (by norm_num)⟩)

/-- The same as a real number. -/
def partR (x : FVec Ideal S4x2048x2048 .f32) (b : Fin 4) (h t : ℕ) (e : Fin 128) : ℝ := (part x b h t e).toReal

/-- The summed log forget gate of head `h` up to row `t`. -/
def decayR (d : FVec Ideal S4x16x2048 .f32) (b : Fin 4) (h t : ℕ) : ℝ :=
  (d (ix3 b ⟨h % 16, Nat.mod_lt _ (by norm_num)⟩ ⟨t % 2048, Nat.mod_lt _ (by norm_num)⟩)).toReal

/-- The attention's result. -/
def result (q k v : FVec Ideal S4x2048x2048 .f32) (d : FVec Ideal S4x16x2048 .f32) (b : Fin 4) (t l : ℕ) : EReal :=
  attend (partR q b (l / 128)) (partR k b (l / 128)) (decayR d b (l / 128)) (part v b (l / 128)) t ⟨l % 128, Nat.mod_lt _ (by norm_num)⟩

theorem part_eq (x : FVec Ideal S4x2048x2048 .f32) (b : Fin 4) (t l : Fin 2048) (h : ℕ) (e : Fin 128) (hl : 128 * h + e.val = l.val) :
    part x b h t.val e = x (ix3 b t l) := by
  unfold part
  have e1 : (⟨t.val % 2048, Nat.mod_lt _ (by norm_num)⟩ : Fin 2048) = t := Fin.ext (Nat.mod_eq_of_lt t.isLt)
  have e2 : (⟨(128 * h + e.val) % 2048, Nat.mod_lt _ (by norm_num)⟩ : Fin 2048) = l :=
    Fin.ext (by show (128 * h + e.val) % 2048 = l.val; omega)
  rw [e1, e2]

theorem partR_eq (x : FVec Ideal S4x2048x2048 .f32) (hx : ∀ i, x i ≠ ⊤ ∧ x i ≠ ⊥) (b : Fin 4) (t l : Fin 2048) (h : ℕ) (e : Fin 128)
    (hl : 128 * h + e.val = l.val) : x (ix3 b t l) = ((partR x b h t.val e : ℝ) : EReal) := by
  unfold partR
  rw [part_eq x b t l h e hl, EReal.coe_toReal (hx _).1 (hx _).2]

theorem decayR_eq (d : FVec Ideal S4x16x2048 .f32) (hd : ∀ i, d i ≠ ⊤ ∧ d i ≠ ⊥) (b : Fin 4) (h : Fin 16) (t : Fin 2048) (n : ℕ) (hn : n = h.val) :
    d (ix3 b h t) = ((decayR d b n t.val : ℝ) : EReal) := by
  subst hn
  unfold decayR
  have e1 : (⟨t.val % 2048, Nat.mod_lt _ (by norm_num)⟩ : Fin 2048) = t := Fin.ext (Nat.mod_eq_of_lt t.isLt)
  have e2 : (⟨h.val % 16, Nat.mod_lt _ (by norm_num)⟩ : Fin 16) = h := Fin.ext (Nat.mod_eq_of_lt h.isLt)
  rw [e1, e2, EReal.coe_toReal (hd _).1 (hd _).2]

end Cert.KernelIdeal.Fox

end
-- ==== Proof.Fox.Arrays.lean ====
/-
  The attention call's blocks as parts of the arrays the caller gave, and its result arrays.
-/
module

public import proofs.«01_k».proof.Proof.Fox.Block
public import proofs.«01_k».proof.Proof.Fox.Spec
public import proofs.«01_k».proof.Proof.Gen.KernelIdeal.Value

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Which block of its array each window of the call is at: the batch row and the pair of heads. -/
theorem idx : ∀ t : Fin cfg0.N, win0_0.index t = ![t.val / 8, 0, 16 + t.val % 8] ∧ win0_1.index t = ![t.val / 8, 0, t.val % 8]
    ∧ win0_2.index t = ![t.val / 8, 0, 8 + t.val % 8] ∧ win0_3.index t = ![t.val / 8, 0, 0] ∧ win0_4.index t = ![t.val, 0, 0]
    ∧ win0_5.index t = ![1, t.val, 0] ∧ win0_6.index t = ![1, t.val, 0] ∧ win0_7.index t = ![0, t.val, 0]
    ∧ win0_8.index t = ![t.val / 8, 0, t.val % 8]
    ∧ win0_9.index t = ![0, t.val, 0] ∧ win0_10.index t = ![0, t.val, 0] ∧ win0_11.index t = ![0, t.val, 0]
    ∧ (grid0.coords t 1).val = t.val % 8 :=
  (by decide +kernel : ∀ t : Fin grid0.N, _)

/-- The factor the caller multiplies the queries by. -/
def qFactor : FVec Ideal S_ .f32 :=
  Host.divf (constant S_ .f32 0x3F800000#32) (mulf (Host.sqrt (constant S_ .f32 0x43000000#32)) (Host.log (constant S_ .f32 0x40000000#32)))

/-- Keys, values and scaled queries side by side. -/
def kvqArr (q k v : FVec Ideal S4x2048x2048 .f32) : FVec Ideal S4x2048x6144 .bf16 :=
  truncf .bf16 (concatenate S4x2048x6144 2 [⟨S4x2048x2048, k⟩, ⟨S4x2048x2048, v⟩,
    ⟨S4x2048x2048, (mulf q (broadcastInDim S4x2048x2048 ![] bcast_S_S4x2048x2048 qFactor) : FVec Ideal S4x2048x2048 .f32)⟩] concatenates_S4x2048x2048_S4x2048x2048_S4x2048x2048_S4x2048x6144_d2) bitsLt_bf16_f32

theorem V_kvq (c : Dev nD) : V m c main_v7 = kvqArr (m ((c : Thread nD τ).loc main_arg0)) (m ((c : Thread nD τ).loc main_arg1)) (m ((c : Thread nD τ).loc main_arg2)) := by
  simp only [V, hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_dcol (c : Dev nD) : V m c main_v9 = (pad S4x2048x128 ![0, 0, 0] ![0, 0, 112] ![0, 0, 0] (transpose S4x2048x16 [0, 2, 1] (m ((c : Thread nD τ).loc main_arg3)) transposes_S4x16x2048_S4x2048x16_0_2_1 : FVec Ideal S4x2048x16 .f32) (sitofp .f32 (constantI S_ 32 0#32)) pads_S4x2048x16_S4x2048x128_000_000_01120 h_S_ : FVec Ideal S4x2048x128 .f32) := by
  simp only [V, hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_drow (c : Dev nD) : V m c main_v10 = (shapeCast S32x2x2048 (m ((c : Thread nD τ).loc main_arg3)) shapeCasts_S4x16x2048_S32x2x2048 : FVec Ideal S32x2x2048 .f32) := by
  simp only [V, hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results_simp <;> rfl

theorem bits_two : Ideal.ofBits .f32 0x40000000#32 = ((2 : ℝ) : EReal) := by
  simp [Ideal.ofBits, Ideal.ieee, -EReal.coe_mul]; norm_num

/-- The factor's value. -/
theorem qFactor_val (j : S_.Idx) : qFactor j = ((1 / (Real.sqrt 128 * Real.log 2) : ℝ) : EReal) := by
  have h0 : Real.sqrt 128 * Real.log 2 ≠ 0 :=
    mul_ne_zero (Real.sqrt_ne_zero'.mpr (by norm_num)) (Real.log_pos (by norm_num)).ne'
  pointwise [qFactor]
  rw [bits_128, bits_two]
  have e1 : Ideal.sqrt ((128 : ℝ) : EReal) = ((Real.sqrt 128 : ℝ) : EReal) := by
    show (if (128 : ℝ) < 0 then ⊥ else ((Real.sqrt 128 : ℝ) : EReal)) = _
    rw [if_neg (by norm_num)]
  have e2 : Ideal.log ((2 : ℝ) : EReal) = ((Real.log 2 : ℝ) : EReal) := by
    show (if (2 : ℝ) ≤ 0 then ⊥ else ((Real.log 2 : ℝ) : EReal)) = _
    rw [if_neg (by norm_num)]
  rw [e1, e2, ← EReal.coe_mul, Ideal.div_coe h0, one_mul]

theorem kvq_q (q k v : FVec Ideal S4x2048x2048 .f32) (b : Fin 4) (s l : Fin 2048) :
    kvqArr q k v (ix3 b s ⟨4096 + l.val, by omega⟩) = q (ix3 b s l) * ((1 / (Real.sqrt 128 * Real.log 2) : ℝ) : EReal) := by
  pointwise [kvqArr]
  rw [dif_neg (by omega), dif_neg (by omega), qFactor_val]
  have e : (⟨4096 + l.val - 2048 - 2048, by omega⟩ : Fin 2048) = l := Fin.ext (by show 4096 + l.val - 2048 - 2048 = l.val; omega)
  rw [e]

theorem kvq_k (q k v : FVec Ideal S4x2048x2048 .f32) (b : Fin 4) (s l : Fin 2048) :
    kvqArr q k v (ix3 b s ⟨l.val, by omega⟩) = k (ix3 b s l) := by
  pointwise [kvqArr]

theorem kvq_v (q k v : FVec Ideal S4x2048x2048 .f32) (b : Fin 4) (s l : Fin 2048) :
    kvqArr q k v (ix3 b s ⟨2048 + l.val, by omega⟩) = v (ix3 b s l) := by
  pointwise [kvqArr]

theorem dcol_at (d : FVec Ideal S4x16x2048 .f32) (b : Fin 4) (s : Fin 2048) (h : Fin 16) :
    (pad S4x2048x128 ![0, 0, 0] ![0, 0, 112] ![0, 0, 0] (transpose S4x2048x16 [0, 2, 1] d transposes_S4x16x2048_S4x2048x16_0_2_1 : FVec Ideal S4x2048x16 .f32) (sitofp .f32 (constantI S_ 32 0#32)) pads_S4x2048x16_S4x2048x128_000_000_01120 h_S_ : FVec Ideal S4x2048x128 .f32) (ix3 b s ⟨h.val, by omega⟩) = d (ix3 b h s) := by
  pointwise

theorem drow_at (d : FVec Ideal S4x16x2048 .f32) (b : Fin 4) (g : Fin 8) (h : Fin 2) (s : Fin 2048) :
    (shapeCast S32x2x2048 d shapeCasts_S4x16x2048_S32x2x2048 : FVec Ideal S32x2x2048 .f32) (ix3 ⟨b.val * 8 + g.val, by omega⟩ h s) = d (ix3 b ⟨2 * g.val + h.val, by omega⟩ s) := by
  pointwise
  have e : (⟨(b.val * 8 + g.val) % 8 * 2 + h.val, by omega⟩ : Fin 16) = ⟨2 * g.val + h.val, by omega⟩ := Fin.ext (by show (b.val * 8 + g.val) % 8 * 2 + h.val = 2 * g.val + h.val; omega)
  rw [e]

theorem t_lt (t : Fin cfg0.N) : t.val < 32 := t.isLt

/-- The block of queries that a step reads. -/
theorem blk_q (c : Dev nD) (t : Fin cfg0.N) (s : Fin 2048) (l : Fin 256) :
    iblk m c 0 t (ix3 0 s l) = V m c main_v7 (ix3 ⟨t.val / 8, by have := t_lt t; omega⟩ s ⟨4096 + (256 * (t.val % 8) + l.val), by omega⟩) := by
  have := t_lt t
  unfold iblk
  refine congrArg (V m c main_v7) ?_
  blk_ext [idx t]

theorem blk_k (c : Dev nD) (t : Fin cfg0.N) (s : Fin 2048) (l : Fin 256) :
    iblk m c 1 t (ix3 0 s l) = V m c main_v7 (ix3 ⟨t.val / 8, by have := t_lt t; omega⟩ s ⟨256 * (t.val % 8) + l.val, by omega⟩) := by
  have := t_lt t
  unfold iblk
  refine congrArg (V m c main_v7) ?_
  blk_ext [idx t]

theorem blk_v (c : Dev nD) (t : Fin cfg0.N) (s : Fin 2048) (l : Fin 256) :
    iblk m c 2 t (ix3 0 s l) = V m c main_v7 (ix3 ⟨t.val / 8, by have := t_lt t; omega⟩ s ⟨2048 + (256 * (t.val % 8) + l.val), by omega⟩) := by
  have := t_lt t
  unfold iblk
  refine congrArg (V m c main_v7) ?_
  blk_ext [idx t]

theorem blk_dcol (c : Dev nD) (t : Fin cfg0.N) (s : Fin 2048) (l : Fin 128) :
    iblk m c 3 t (ix3 0 s l) = V m c main_v9 (ix3 ⟨t.val / 8, by have := t_lt t; omega⟩ s l) := by
  have := t_lt t
  unfold iblk
  refine congrArg (V m c main_v9) ?_
  blk_ext [idx t]

theorem blk_drow (c : Dev nD) (t : Fin cfg0.N) (h : Fin 2) (s : Fin 2048) :
    iblk m c 4 t (ix3 0 h s) = V m c main_v10 (ix3 ⟨t.val, t_lt t⟩ h s) := by
  have := t_lt t
  unfold iblk
  refine congrArg (V m c main_v10) ?_
  blk_ext [idx t]

end Cert.KernelIdeal.Fox

end
-- ==== Proof.Fox.Final.lean ====
/-
  The call's four result arrays.
-/
module

public import proofs.«01_k».proof.Proof.Fox.Arrays
public import proofs.«01_k».proof.Proof.Fox.Spec

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The attention's array. -/
theorem attention (c : Dev nD)
    (q : FVec Ideal S4x2048x2048 .f32) (eq : m ((c : Thread nD τ).loc main_arg0) = q) (fq : ∀ i, q i ≠ ⊤ ∧ q i ≠ ⊥)
    (k : FVec Ideal S4x2048x2048 .f32) (ek : m ((c : Thread nD τ).loc main_arg1) = k) (fk : ∀ i, k i ≠ ⊤ ∧ k i ≠ ⊥)
    (d : FVec Ideal S4x16x2048 .f32) (ed : m ((c : Thread nD τ).loc main_arg3) = d) (fd : ∀ i, d i ≠ ⊤ ∧ d i ≠ ⊥)
    (v : FVec Ideal S4x2048x2048 .f32) (ev : m ((c : Thread nD τ).loc main_arg2) = v) :
    (dats m 0 c).arrAt 8 cfg0.N = (fun i => result q k v d (i 0) (i 1).val (i 2).val : FVec Ideal S4x2048x2048 .bf16) := by
  have tl := t_lt
  refine (dats m 0 c).arrAt_eq_of_covers 8 _ (by decide +kernel) fun t _ y => ?_
  obtain ⟨b, hb⟩ : ∃ b : Fin 4, b.val = t.val / 8 := ⟨⟨t.val / 8, by have := tl t; omega⟩, rfl⟩
  have y2 : (y 2).val < 256 := (y 2).isLt
  have y1 : (y 1).val < 2048 := (y 1).isLt
  have e0 : (win0_8.blk t).view.emb y 0 = b := Fin.ext (by rw [hb]; blk_simp [idx t])
  blk_simp
  rw [after0_8]
  rw [e0]
  have eb : (⟨t.val / 8, by have := tl t; omega⟩ : Fin 4) = b := Fin.ext hb.symm
  have g : (grid0.coords t 1).val = t.val % 8 := by have := idx t; omega
  refine (out8_at _ _ _ _ _ _ _ _ (fun n => partR q b (2 * (t.val % 8) + n)) (fun n => partR k b (2 * (t.val % 8) + n)) (fun n => decayR d b (2 * (t.val % 8) + n)) (fun n => part v b (2 * (t.val % 8) + n)) ?_ ?_ ?_ ?_ (grid0.coords t) ?_ ?_ y).trans ?_
  · intro s l
    rw [blk_q, V_kvq, eb]
    refine (kvq_q _ _ _ b s ⟨256 * (t.val % 8) + l.val, by omega⟩).trans ?_
    rw [eq, qScaled, EReal.coe_mul, ← partR_eq q fq b s ⟨256 * (t.val % 8) + l.val, by omega⟩ (2 * (t.val % 8) + l.val / 128) ⟨l.val % 128, mod_128 _⟩ (by simp only []; omega)]
  · intro s l
    rw [blk_k, V_kvq, eb]
    refine (kvq_k _ _ _ b s ⟨256 * (t.val % 8) + l.val, by omega⟩).trans ?_
    rw [ek]
    exact partR_eq k fk b s ⟨256 * (t.val % 8) + l.val, by omega⟩ (2 * (t.val % 8) + l.val / 128) ⟨l.val % 128, mod_128 _⟩ (by simp only []; omega)
  · intro s l
    rw [blk_v, V_kvq, eb]
    refine (kvq_v _ _ _ b s ⟨256 * (t.val % 8) + l.val, by omega⟩).trans ?_
    rw [ev]
    exact (part_eq v b s ⟨256 * (t.val % 8) + l.val, by omega⟩ (2 * (t.val % 8) + l.val / 128) ⟨l.val % 128, mod_128 _⟩ (by simp only []; omega)).symm
  · intro h s
    rw [blk_drow, V_drow]
    have e3 : (⟨t.val, t_lt t⟩ : Fin 32) = ⟨b.val * 8 + (⟨t.val % 8, Nat.mod_lt _ (by norm_num)⟩ : Fin 8).val, by simp only []; omega⟩ := Fin.ext (by simp only []; omega)
    rw [e3]
    refine (drow_at _ b ⟨t.val % 8, Nat.mod_lt _ (by norm_num)⟩ h s).trans ?_
    rw [ed]
    exact decayR_eq d fd b _ s _ rfl
  · rw [g]; exact Nat.mod_lt _ (by norm_num)
  · intro s h
    rw [blk_dcol, V_dcol, eb]
    have e3 : ∀ hp, (⟨2 * (grid0.coords t 1).val + h.val, hp⟩ : Fin 128) = ⟨(⟨2 * (t.val % 8) + h.val, by omega⟩ : Fin 16).val, by simp only []; omega⟩ := fun _ => Fin.ext (by simp only [g])
    rw [e3]
    refine (dcol_at _ b s ⟨2 * (t.val % 8) + h.val, by omega⟩).trans ?_
    rw [ed]
    exact decayR_eq d fd b _ s _ rfl
  · obtain ⟨-, -, -, -, -, -, -, -, i8, -⟩ := idx t
    have i1 : win0_8.index t 1 = 0 := by rw [i8]; rfl
    have i2 : win0_8.index t 2 = t.val % 8 := by rw [i8]; rfl
    rw [i1, i2, show 0 * 2048 + (y 1).val = (y 1).val by omega]
    unfold result
    have f1 : (t.val % 8 * 256 + (y 2).val) / 128 = 2 * (t.val % 8) + (y 2).val / 128 := by omega
    have f2 : (⟨(t.val % 8 * 256 + (y 2).val) % 128, Nat.mod_lt _ (by norm_num)⟩ : Fin 128) = ⟨(y 2).val % 128, mod_128 _⟩ := Fin.ext (by simp only []; omega)
    rw [f1, f2]

/-- The second up-projection weight, cast. -/
theorem up (c : Dev nD) (hs : S2x2048x8192.Slices ![1, 0, 0] S1x2048x8192) : (dats m 0 c).arrAt 9 cfg0.N = (truncf .bf16 (extractStridedSlice S1x2048x8192 ![1, 0, 0] (m ((c : Thread nD τ).loc main_arg4)) hs) bitsLt_bf16_f32 : FVec Ideal S1x2048x8192 .bf16) := by
  refine (dats m 0 c).arrAt_eq_of_covers 9 _ (by decide +kernel) fun t _ y => ?_
  blk_simp
  rw [after0_9]
  unfold out0_9
  canon_tiles y h
  case piece0 =>
    pointwise [k0_pay2]
    blk_point [iblk, V_main_arg4, idx t]

/-- The second down-projection weight, cast. -/
theorem down (c : Dev nD) (hs : S2x8192x2048.Slices ![1, 0, 0] S1x8192x2048) : (dats m 0 c).arrAt 10 cfg0.N = (truncf .bf16 (extractStridedSlice S1x8192x2048 ![1, 0, 0] (m ((c : Thread nD τ).loc main_arg5)) hs) bitsLt_bf16_f32 : FVec Ideal S1x8192x2048 .bf16) := by
  refine (dats m 0 c).arrAt_eq_of_covers 10 _ (by decide +kernel) fun t _ y => ?_
  blk_simp
  rw [after0_10]
  unfold out0_10
  canon_tiles y h
  case piece0 =>
    pointwise [k0_pay3]
    blk_point [iblk, V_main_arg5, idx t]

/-- The output weight, cast. -/
theorem out_w (c : Dev nD) : (dats m 0 c).arrAt 11 cfg0.N = (truncf .bf16 (m ((c : Thread nD τ).loc main_arg6)) bitsLt_bf16_f32 : FVec Ideal S1x2048x2048 .bf16) := by
  refine (dats m 0 c).arrAt_eq_of_covers 11 _ (by decide +kernel) fun t _ y => ?_
  blk_simp
  rw [after0_11]
  unfold out0_11
  canon_tiles y h
  case piece0 =>
    pointwise [k0_pay4]
    blk_point [iblk, V_main_arg6, idx t]

end Cert.KernelIdeal.Fox

end
-- ==== Proof.Fox.Reference.lean ====
/-
  The reference's attention at one entry.
-/
module

public import proofs.«01_k».proof.Proof.Fox.Spec
public import Idealize.ShloMosaic.Lib.Pointwise
public import proofs.«01_k».proof.Proof.Gen.ReferenceIdeal.Run

@[expose] public section

set_option maxRecDepth 16384

noncomputable section

namespace Cert.ReferenceIdeal.Fox

open Cert.ReferenceIdeal Cert.ReferenceIdeal.Gen Cert.ReferenceIdeal.Value
open Idealize.ShloMosaic Idealize.ShloMosaic.TcCoe Idealize.SL.Sem
open Cert.KernelIdeal.Fox (part partR decayR result attend logit part_eq partR_eq decayR_eq)

/-- The masked logits, as the reference forms them. -/
def scoresArr (q k : FVec Ideal S4x2048x2048 .f32) (d : FVec Ideal S4x16x2048 .f32) : FVec Ideal S4x16x2048x2048 .f32 :=
  select (broadcastInDim S4x16x2048x2048 ![2, 3] bcast_S2048x2048_S4x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (Host.dotGeneral dot_S4x2048x16x128_S4x2048x16x128_S4x16x2048x2048_3_3_1_1_02_02 none (Host.divf (shapeCast _ q shapeCasts_S4x2048x2048_S4x2048x16x128) (broadcastInDim S4x2048x16x128 ![] bcast_S_S4x2048x16x128 (Host.sqrt (constant S_ .f32 0x43000000#32)))) (shapeCast _ k shapeCasts_S4x2048x2048_S4x2048x16x128)) (broadcastInDim S4x16x2048x2048 ![0, 1, 2, 3] bcast_S4x16x2048x1_S4x16x2048x2048_0_1_2_3 (broadcastInDim S4x16x2048x1 ![0, 1, 2] bcast_S4x16x2048_S4x16x2048x1_0_1_2 d))) (broadcastInDim S4x16x2048x2048 ![0, 1, 2, 3] bcast_S4x16x1x2048_S4x16x2048x2048_0_1_2_3 (broadcastInDim S4x16x1x2048 ![0, 1, 3] bcast_S4x16x2048_S4x16x1x2048_0_1_3 d))) (broadcastInDim S4x16x2048x2048 ![] bcast_S_S4x16x2048x2048 (id (constant S_ .f32 0xFF800000#32)))

/-- The greatest entry against minus infinity. -/
def topOf (R : FVec Ideal S4x16x2048 .f32) : FVec Ideal S4x16x2048 .f32 :=
  maximumf (broadcastInDim S4x16x2048 ![] bcast_S_S4x16x2048 (constant S_ .f32 0xFF800000#32)) R

/-- Each row's greatest entry. -/
def rowMax (S : FVec Ideal S4x16x2048x2048 .f32) : FVec Ideal S4x16x2048 .f32 :=
  Host.reduce FloatOps.maximumf S (constant S_ .f32 0xFF800000#32) reducesTo_S4x16x2048x2048_S4x16x2048_d3 h_S_

/-- Each row's greatest logit. -/
def topArr (S : FVec Ideal S4x16x2048x2048 .f32) : FVec Ideal S4x16x2048 .f32 := topOf (rowMax S)

/-- The exponentials of the logits less the row's greatest. -/
def expArr (S : FVec Ideal S4x16x2048x2048 .f32) (T : FVec Ideal S4x16x2048 .f32) : FVec Ideal S4x16x2048x2048 .f32 :=
  Host.exp (subf S (broadcastInDim S4x16x2048x2048 ![0, 1, 2, 3] bcast_S4x16x2048x1_S4x16x2048x2048_0_1_2_3 (broadcastInDim S4x16x2048x1 ![0, 1, 2] bcast_S4x16x2048_S4x16x2048x1_0_1_2 T)))

/-- The exponentials over their sum. -/
def probsArr (E : FVec Ideal S4x16x2048x2048 .f32) : FVec Ideal S4x16x2048x2048 .f32 :=
  Host.divf E (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd E (constant S_ .f32 0x00000000#32) reducesTo_S4x16x2048x2048_S4x16x2048_d3 h_S_)))

/-- The values weighted by the probabilities. -/
def mixArr (P : FVec Ideal S4x16x2048x2048 .f32) (v : FVec Ideal S4x2048x2048 .f32) : FVec Ideal S4x2048x2048 .bf16 :=
  truncf .bf16 (shapeCast _ (transpose S4x2048x16x128 [0, 3, 1, 2] (Host.dotGeneral dot_S4x2048x16x128_S4x16x2048x2048_S4x16x128x2048_1_3_3_2_02_01 none (shapeCast _ v shapeCasts_S4x2048x2048_S4x2048x16x128) P) transposes_S4x16x128x2048_S4x2048x16x128_0_3_1_2) shapeCasts_S4x2048x16x128_S4x2048x2048) bitsLt_bf16_f32

theorem out_eq (m : (ℓ : Loc nD τ sig) → Buf (Elt Ideal) ℓ) (c : Dev nD) : res_main_v35 m c
    = mixArr (probsArr (expArr (scoresArr (m ((c.tc : Thread nD τ).loc main_arg0)) (m ((c.tc : Thread nD τ).loc main_arg1)) (m ((c.tc : Thread nD τ).loc main_arg3)))
      (topArr (scoresArr (m ((c.tc : Thread nD τ).loc main_arg0)) (m ((c.tc : Thread nD τ).loc main_arg1)) (m ((c.tc : Thread nD τ).loc main_arg3)))))) (m ((c.tc : Thread nD τ).loc main_arg2)) := by
  rfl

theorem mix_at (P : FVec Ideal S4x16x2048x2048 .f32) (v : FVec Ideal S4x2048x2048 .f32) (b : Fin 4) (t l : Fin 2048) :
    mixArr P v (ix3 b t l) = ∑ s : Fin 2048, v (ix3 b s l) * P (ix4 b ⟨l.val / 128, by omega⟩ t s) := by
  pointwise [mixArr]

theorem probs_at (E : FVec Ideal S4x16x2048x2048 .f32) (b : Fin 4) (h : Fin 16) (t s : Fin 2048) :
    probsArr E (ix4 b h t s) = Ideal.div (E (ix4 b h t s)) (∑ s' : Fin 2048, E (ix4 b h t s')) := by
  pointwise [probsArr]

theorem exp_at (S : FVec Ideal S4x16x2048x2048 .f32) (T : FVec Ideal S4x16x2048 .f32) (b : Fin 4) (h : Fin 16) (t s : Fin 2048) :
    expArr S T (ix4 b h t s) = Ideal.exp (S (ix4 b h t s) - T (ix3 b h t)) := by
  pointwise [expArr]

/-- A maximum over the last of four axes, the sizes arbitrary. -/
theorem hostMax_at {n0 n1 n2 n3 : ℕ} {u : Shape} (S : (⟨4, ![n0, n1, n2, n3]⟩ : Shape).Idx → EReal) (z : u.Idx → EReal)
    (hr : (⟨4, ![n0, n1, n2, n3]⟩ : Shape).ReducesTo [3] (⟨3, ![n0, n1, n2]⟩ : Shape)) (hu : 0 < u.numel) (hz : ∀ i, z i = ⊥)
    (a : Fin n0) (b : Fin n1) (c : Fin n2) :
    Host.reduce (FloatOps.maximumf (F := Ideal) (φ := .f32)) S z hr hu (ix3 a b c) = Finset.univ.sup fun s : Fin n3 => S (ix4 a b c s) := by
  rw [Host.reduce_eq_fold, hz]
  refine (Shape.ReducesTo.fold_fiber_r4_a3 hr (ix3 a b c) (FloatOps.maximumf (F := Ideal) (φ := .f32)) ⊥ S).trans ?_
  rfl

theorem topOf_at (R : FVec Ideal S4x16x2048 .f32) (b : Fin 4) (h : Fin 16) (t : Fin 2048) : topOf R (ix3 b h t) = R (ix3 b h t) := by
  pointwise [topOf]
  rw [Cert.KernelIdeal.Fox.negInf_val, max_eq_right bot_le]

theorem rowMax_at (S : FVec Ideal S4x16x2048x2048 .f32) (b : Fin 4) (h : Fin 16) (t : Fin 2048) :
    rowMax S (ix3 b h t) = Finset.univ.sup fun s : Fin 2048 => S (ix4 b h t s) := by
  unfold rowMax
  rw [hostMax_at (u := S_) (n0 := 4) (n1 := 16) (n2 := 2048) (n3 := 2048) S (constant (F := Ideal) S_ .f32 0xFF800000#32) reducesTo_S4x16x2048x2048_S4x16x2048_d3 h_S_ (fun _ => Cert.KernelIdeal.Fox.negInf_val) b h t]

theorem top_at (S : FVec Ideal S4x16x2048x2048 .f32) (b : Fin 4) (h : Fin 16) (t : Fin 2048) :
    topArr S (ix3 b h t) = Finset.univ.sup fun s : Fin 2048 => S (ix4 b h t s) := by
  unfold topArr
  rw [topOf_at, rowMax_at]

theorem scores_at (q k : FVec Ideal S4x2048x2048 .f32) (d : FVec Ideal S4x16x2048 .f32) (b : Fin 4) (h : Fin 16) (t s : Fin 2048) :
    scoresArr q k d (ix4 b h t s) = if s.val ≤ t.val then
      (∑ e : Fin 128, Ideal.div (q (ix3 b t ⟨h.val * 128 + e.val, by omega⟩)) ((Real.sqrt 128 : ℝ) : EReal) * k (ix3 b s ⟨h.val * 128 + e.val, by omega⟩)) + d (ix3 b h t) - d (ix3 b h s) else ⊥ := by
  pointwise [scoresArr]
  rw [Cert.KernelIdeal.Fox.select_sge _ _ (by omega) (by omega), Cert.KernelIdeal.Fox.bits_128, show Ideal.sqrt ((128 : ℝ) : EReal) = ((Real.sqrt 128 : ℝ) : EReal) from by
    show (if (128 : ℝ) < 0 then ⊥ else ((Real.sqrt 128 : ℝ) : EReal)) = _
    rw [if_neg (by norm_num)]]
  congr 1

/-- With real queries, keys and decays the scores are the plain masked logits. -/
theorem scores_real (q k : FVec Ideal S4x2048x2048 .f32) (d : FVec Ideal S4x16x2048 .f32)
    (fq : ∀ i, q i ≠ ⊤ ∧ q i ≠ ⊥) (fk : ∀ i, k i ≠ ⊤ ∧ k i ≠ ⊥) (fd : ∀ i, d i ≠ ⊤ ∧ d i ≠ ⊥) (b : Fin 4) (h : Fin 16) (t s : Fin 2048) :
    scoresArr q k d (ix4 b h t s) = logit (partR q b h.val) (partR k b h.val) (decayR d b h.val) t.val s.val := by
  have h0 : Real.sqrt 128 ≠ 0 := Real.sqrt_ne_zero'.mpr (by norm_num)
  rw [scores_at]
  unfold logit
  refine if_congr Iff.rfl ?_ rfl
  rw [decayR_eq d fd b h t h.val rfl, decayR_eq d fd b h s h.val rfl, EReal.coe_sub, EReal.coe_add]
  congr 2
  rw [show ((∑ e, partR q b h.val t.val e / Real.sqrt 128 * partR k b h.val s.val e : ℝ) : EReal) = ∑ e, ((partR q b h.val t.val e / Real.sqrt 128 * partR k b h.val s.val e : ℝ) : EReal) from (Cert.Fox.coe_sum _ _).symm]
  refine Finset.sum_congr rfl fun e _ => ?_
  rw [partR_eq q fq b t ⟨h.val * 128 + e.val, by omega⟩ h.val e (by simp only []; omega), partR_eq k fk b s ⟨h.val * 128 + e.val, by omega⟩ h.val e (by simp only []; omega),
    Ideal.div_coe h0, ← EReal.coe_mul, ← EReal.coe_mul, mul_one_div]

/-- The reference's attention is the plain one. -/
theorem out_at (m : (ℓ : Loc nD τ sig) → Buf (Elt Ideal) ℓ) (c : Dev nD) (q k v : FVec Ideal S4x2048x2048 .f32) (d : FVec Ideal S4x16x2048 .f32)
    (eq : m ((c.tc : Thread nD τ).loc main_arg0) = q) (ek : m ((c.tc : Thread nD τ).loc main_arg1) = k)
    (ev : m ((c.tc : Thread nD τ).loc main_arg2) = v) (ed : m ((c.tc : Thread nD τ).loc main_arg3) = d)
    (fq : ∀ i, q i ≠ ⊤ ∧ q i ≠ ⊥) (fk : ∀ i, k i ≠ ⊤ ∧ k i ≠ ⊥) (fd : ∀ i, d i ≠ ⊤ ∧ d i ≠ ⊥)
    (b : Fin 4) (t l : Fin 2048) : res_main_v35 m c (ix3 b t l) = result q k v d b t.val l.val := by
  rw [out_eq, eq, ek, ev, ed, mix_at]
  unfold result attend
  show (∑ s : Fin 2048, v (ix3 b s l) * probsArr _ (ix4 b ⟨l.val / 128, by omega⟩ t s) : EReal) = _
  refine Finset.sum_congr rfl fun s _ => ?_
  rw [part_eq v b s l (l.val / 128) ⟨l.val % 128, Nat.mod_lt _ (by norm_num)⟩ (by simp only []; omega)]
  simp only [probs_at, exp_at, top_at, scores_real q k d fq fk fd]

end Cert.ReferenceIdeal.Fox

end
-- ==== Proof.Fox.Finite.lean ====
/-
  The precondition, read at one entry: every query, key and decay is a real number.
-/
module

public import proofs.«01_k».proof.Proof.Gen.Pre_finite
public import Idealize.ShloMosaic.Lib.ReduceAll
public import proofs.«01_k».proof.Proof.Fox.Row

@[expose] public section

set_option maxRecDepth 16384

noncomputable section

namespace Cert.Pre_finite.Fox

open Cert.Pre_finite Cert.Pre_finite.Gen
open Idealize.ShloMosaic

theorem and_one (a b : BitVec 1) : IntOp.andi a b = 1#1 ↔ a = 1#1 ∧ b = 1#1 := by
  revert a b; decide

/-- An entry whose magnitude compares less than infinity is a real number. -/
theorem finite_of_lt {x : Ideal .f32} (e : BitVec.ofBool (decide ((FloatOps.absf x : Ideal .f32) < Ideal.ofBits .f32 0x7F800000#32)) = 1#1) : (x : EReal) ≠ ⊤ ∧ (x : EReal) ≠ ⊥ := by
  have e1 : (FloatOps.absf x : Ideal .f32) < Ideal.ofBits .f32 0x7F800000#32 := by
    by_contra hn
    rw [decide_eq_false hn] at e
    exact absurd e (by decide)
  have e2 : Ideal.ofBits .f32 0x7F800000#32 = ⊤ := by simp [Ideal.ofBits, Ideal.ieee]
  rw [e2] at e1
  have e3 : max (x : EReal) (-x) < ⊤ := e1
  rw [max_lt_iff] at e3
  refine ⟨e3.1.ne, fun hb => ?_⟩
  rw [hb] at e3
  exact absurd e3.2 (by simp)

theorem real (q k v : FVec Ideal S4x2048x2048 .f32) (d : FVec Ideal S4x16x2048 .f32) (u : FVec Ideal S2x2048x8192 .f32) (w : FVec Ideal S2x8192x2048 .f32) (o : FVec Ideal S1x2048x2048 .f32)
    (e : fn (F := Ideal) q k v d u w o = fun _ => 1#1) :
    (∀ i, q i ≠ ⊤ ∧ q i ≠ ⊥) ∧ (∀ i, k i ≠ ⊤ ∧ k i ≠ ⊥) ∧ (∀ i, d i ≠ ⊤ ∧ d i ≠ ⊥) := by
  have e0 := congrFun e (Shape.Idx.first h_S_)
  dsimp only [fn] at e0
  obtain ⟨e1, e2⟩ := (and_one _ _).mp e0
  obtain ⟨e3, e4⟩ := (and_one _ _).mp e1
  refine ⟨fun i => ?_, fun i => ?_, fun i => ?_⟩
  · have := Host.reduce_andi_all _ _ _ _ _ e3 i
    pointwise at this
    exact finite_of_lt this
  · have := Host.reduce_andi_all _ _ _ _ _ e4 i
    pointwise at this
    exact finite_of_lt this
  · have := Host.reduce_andi_all _ _ _ _ _ e2 i
    pointwise at this
    exact finite_of_lt this

end Cert.Pre_finite.Fox

end
-- ==== Proof.Fox.Join.lean ====
/-
  The call's arrays against the reference's: equal arguments give equal results.
-/
module

public import proofs.«01_k».proof.Proof.Fox.Final
public import proofs.«01_k».proof.Proof.Fox.Reference
public import proofs.«01_k».proof.Proof.Fox.Finite

@[expose] public section

set_option maxRecDepth 16384

noncomputable section

namespace Cert.Fox

open Idealize.ShloMosaic Idealize.ShloMosaic.TcCoe Idealize.SL.Sem

/-- The reference's attention is the array that the call leaves. -/
theorem attention_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (q k v : FVec Ideal Cert.KernelIdeal.S4x2048x2048 .f32) (d : FVec Ideal Cert.KernelIdeal.S4x16x2048 .f32)
    (eq : m ((c.tc : Thread Cert.KernelIdeal.nD Cert.KernelIdeal.τ).loc Cert.KernelIdeal.main_arg0) = q)
    (ek : m ((c.tc : Thread Cert.KernelIdeal.nD Cert.KernelIdeal.τ).loc Cert.KernelIdeal.main_arg1) = k)
    (ev : m ((c.tc : Thread Cert.KernelIdeal.nD Cert.KernelIdeal.τ).loc Cert.KernelIdeal.main_arg2) = v)
    (ed : m ((c.tc : Thread Cert.KernelIdeal.nD Cert.KernelIdeal.τ).loc Cert.KernelIdeal.main_arg3) = d)
    (eq' : m' ((c.tc : Thread Cert.ReferenceIdeal.nD Cert.ReferenceIdeal.τ).loc Cert.ReferenceIdeal.main_arg0) = q)
    (ek' : m' ((c.tc : Thread Cert.ReferenceIdeal.nD Cert.ReferenceIdeal.τ).loc Cert.ReferenceIdeal.main_arg1) = k)
    (ev' : m' ((c.tc : Thread Cert.ReferenceIdeal.nD Cert.ReferenceIdeal.τ).loc Cert.ReferenceIdeal.main_arg2) = v)
    (ed' : m' ((c.tc : Thread Cert.ReferenceIdeal.nD Cert.ReferenceIdeal.τ).loc Cert.ReferenceIdeal.main_arg3) = d)
    (fin : (∀ i, q i ≠ ⊤ ∧ q i ≠ ⊥) ∧ (∀ i, k i ≠ ⊤ ∧ k i ≠ ⊥) ∧ (∀ i, d i ≠ ⊤ ∧ d i ≠ ⊥)) :
    Cert.ReferenceIdeal.Value.res_main_v35 m' c = (Cert.KernelIdeal.Gen.dats m 0 c).arrAt 8 Cert.KernelIdeal.cfg0.N := by
  obtain ⟨fq, fk, fd⟩ := fin
  rw [Cert.KernelIdeal.Fox.attention m c q eq fq k ek fk d ed fd v ev]
  funext i
  have e := Cert.ReferenceIdeal.Fox.out_at m' c q k v d eq' ek' ev' ed' fq fk fd (i 0) (i 1) (i 2)
  exact (congrArg (Cert.ReferenceIdeal.Value.res_main_v35 m' c) (eq_ix3 i)).trans e

end Cert.Fox

end
-- ==== Proof.Ple.Offsets.lean ====
module

public import proofs.«01_k».proof.Proof.Gen.Kernel2Ideal.Frame
public import proofs.«01_k».proof.Proof.Gen.Kernel2Ideal.Skeleton
public import proofs.«01_k».proof.Proof.Gen.Kernel2Ideal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first column of the slice of the result that a point with an embedding slice adds to. -/
def sliceCol (i : grid0.Coords) : ℕ := k0_off3 i 0#32 1

/-- The first half of the slice begins at its first column. -/
instance slice_first (i : grid0.Coords) : ClosedOff (k0_off3 i 0#32) := ⟨![0, sliceCol i], by
  funext a; fin_cases a <;> rfl⟩

theorem slice_second_at : ∀ i : grid0.Coords, k0_off3 i 256#32 1 = k0_off3 i 0#32 1 + 256 := by decide +kernel

/-- The second half begins 256 columns later. -/
instance slice_second (i : grid0.Coords) : ClosedOff (k0_off3 i 256#32) := ⟨![0, sliceCol i + 256], by
  funext a; fin_cases a
  · rfl
  · exact slice_second_at i⟩

/-- The first column of the piece of the residual that a point adds. -/
def pieceCol (i : grid0.Coords) : ℕ := k0_off1 i 1

instance piece_off (i : grid0.Coords) : ClosedOff (k0_off1 i) := ⟨![0, pieceCol i], by
  funext a; fin_cases a <;> rfl⟩

end Cert.Kernel2Ideal.Ple

end
-- ==== Proof.Ple.RunA.lean ====
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Ple.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 4000000 in
/-- The body at the first point of a row block: what the result's block, the normalized rows and the row scales hold after it, as
    found by running it, with the run. -/
noncomputable def runA (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : k0_cond1 i = 1#1) (hc2 : ¬ k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    Σ' (o' : Vec F S1024x2048 .f32) (u' : Vec F S1024x2048 .bf16), { r' : Vec F S1024x1 .f32 //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare u ∗ owns (c : Thread nD τ) arg14 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o' ∗ owns (c : Thread nD τ) arg13 fullShare u' ∗ owns (c : Thread nD τ) arg14 fullShare r') -∗ K ⟨⟩))
          ⊢ wp frame (wpE (defs₀ (F := F)) Variants.none c none) E (cc0_mlp_ple i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mlp_ple_eq_skeleton]; unfold cc0_mlp_ple_skel
    simp only [k0_part1_eq_skeleton, k0_part2_eq_skeleton, k0_part3_eq_skeleton]; unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro; rfl
    isplitl [H11]
    · iexists _; isplitr
      swap; · iexact H11
      ipureintro; rfl
    · iexists _; isplitr
      swap; · iexact H12
      ipureintro; rfl

end Cert.Kernel2Ideal.Ple

end
-- ==== Proof.Ple.RunB.lean ====
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Ple.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 4000000 in
/-- The body at the points that add a slab of the hidden layer: what the result's block, the normalized rows and the row scales hold after it, as
    found by running it, with the run. -/
noncomputable def runB (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    Σ' (o' : Vec F S1024x2048 .f32) (u' : Vec F S1024x2048 .bf16), { r' : Vec F S1024x1 .f32 //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare u ∗ owns (c : Thread nD τ) arg14 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o' ∗ owns (c : Thread nD τ) arg13 fullShare u' ∗ owns (c : Thread nD τ) arg14 fullShare r') -∗ K ⟨⟩))
          ⊢ wp frame (wpE (defs₀ (F := F)) Variants.none c none) E (cc0_mlp_ple i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mlp_ple_eq_skeleton]; unfold cc0_mlp_ple_skel
    simp only [k0_part1_eq_skeleton, k0_part2_eq_skeleton, k0_part3_eq_skeleton]; unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro; rfl
    isplitl [H11]
    · iexists _; isplitr
      swap; · iexact H11
      ipureintro; rfl
    · iexists _; isplitr
      swap; · iexact H12
      ipureintro; rfl

end Cert.Kernel2Ideal.Ple

end
-- ==== Proof.Ple.RunC.lean ====
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Ple.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 4000000 in
/-- The body at the point that adds the last slab and normalizes: what the result's block, the normalized rows and the row scales hold after it, as
    found by running it, with the run. -/
noncomputable def runC (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    Σ' (o' : Vec F S1024x2048 .f32) (u' : Vec F S1024x2048 .bf16), { r' : Vec F S1024x1 .f32 //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare u ∗ owns (c : Thread nD τ) arg14 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o' ∗ owns (c : Thread nD τ) arg13 fullShare u' ∗ owns (c : Thread nD τ) arg14 fullShare r') -∗ K ⟨⟩))
          ⊢ wp frame (wpE (defs₀ (F := F)) Variants.none c none) E (cc0_mlp_ple i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mlp_ple_eq_skeleton]; unfold cc0_mlp_ple_skel
    simp only [k0_part1_eq_skeleton, k0_part2_eq_skeleton, k0_part3_eq_skeleton]; unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro; rfl
    isplitl [H11]
    · iexists _; isplitr
      swap; · iexact H11
      ipureintro; rfl
    · iexists _; isplitr
      swap; · iexact H12
      ipureintro; rfl

end Cert.Kernel2Ideal.Ple

end
-- ==== Proof.Ple.RunD.lean ====
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Ple.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 4000000 in
/-- The body at the points that add a slice of the embedding: what the result's block, the normalized rows and the row scales hold after it, as
    found by running it, with the run. -/
noncomputable def runD (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    Σ' (o' : Vec F S1024x2048 .f32) (u' : Vec F S1024x2048 .bf16), { r' : Vec F S1024x1 .f32 //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare u ∗ owns (c : Thread nD τ) arg14 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o' ∗ owns (c : Thread nD τ) arg13 fullShare u' ∗ owns (c : Thread nD τ) arg14 fullShare r') -∗ K ⟨⟩))
          ⊢ wp frame (wpE (defs₀ (F := F)) Variants.none c none) E (cc0_mlp_ple i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mlp_ple_eq_skeleton]; unfold cc0_mlp_ple_skel
    simp only [k0_part1_eq_skeleton, k0_part2_eq_skeleton, k0_part3_eq_skeleton]; unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro; rfl
    isplitl [H11]
    · iexists _; isplitr
      swap; · iexact H11
      ipureintro; rfl
    · iexists _; isplitr
      swap; · iexact H12
      ipureintro; rfl

end Cert.Kernel2Ideal.Ple

end
-- ==== Proof.Ple.RunE.lean ====
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Ple.Offsets
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option backward.proofsInPublic true in
set_option maxHeartbeats 4000000 in
/-- The body at the last point of a row block: what the result's block, the normalized rows and the row scales hold after it, as
    found by running it, with the run. -/
noncomputable def runE (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    Σ' (o' : Vec F S1024x2048 .f32) (u' : Vec F S1024x2048 .bf16), { r' : Vec F S1024x1 .f32 //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare u ∗ owns (c : Thread nD τ) arg14 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o' ∗ owns (c : Thread nD τ) arg13 fullShare u' ∗ owns (c : Thread nD τ) arg14 fullShare r') -∗ K ⟨⟩))
          ⊢ wp frame (wpE (defs₀ (F := F)) Variants.none c none) E (cc0_mlp_ple i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mlp_ple_eq_skeleton]; unfold cc0_mlp_ple_skel
    simp only [k0_part1_eq_skeleton, k0_part2_eq_skeleton, k0_part3_eq_skeleton]; unfold k0_part1_skel k0_part2_skel k0_part3_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr
      swap; · iexact H10
      ipureintro; rfl
    isplitl [H11]
    · iexists _; isplitr
      swap; · iexact H11
      ipureintro; rfl
    · iexists _; isplitr
      swap; · iexact H12
      ipureintro; rfl

end Cert.Kernel2Ideal.Ple

end
-- ==== Proof.Ple.Indep.lean ====
module

public import proofs.«01_k».proof.Proof.Ple.RunA
public import proofs.«01_k».proof.Proof.Ple.RunB
public import proofs.«01_k».proof.Proof.Ple.RunC
public import proofs.«01_k».proof.Proof.Ple.RunD
public import proofs.«01_k».proof.Proof.Ple.RunE

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first point of a row block leaves the same result whatever it finds. -/
theorem runA_out (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : k0_cond1 i = 1#1) (hc2 : ¬ k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o o' : Vec F S1024x2048 .f32) (u u' : Vec F S1024x2048 .bf16) (r r' : Vec F S1024x1 .f32) :
    (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 = (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o' u' r').1 := by
  unfold runA; dsimp only

/-- It leaves the same row scales whatever it finds. -/
theorem runA_scale (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : k0_cond1 i = 1#1) (hc2 : ¬ k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o o' : Vec F S1024x2048 .f32) (u u' : Vec F S1024x2048 .bf16) (r r' : Vec F S1024x1 .f32) :
    (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.2.1 = (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o' u' r').2.2.1 := by
  unfold runA; dsimp only; sl_unfold_run_names
  exact View.read_writes_of_cover _ _ _ _ _ (View.cover_of_tiledL _ S1024x1.size (by sl_kernel_rfl))

/-- A later point's result does not depend on the normalized rows it finds. -/
theorem runB_out (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o o' : Vec F S1024x2048 .f32) (u u' : Vec F S1024x2048 .bf16) (r r' : Vec F S1024x1 .f32) :
    (runB c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 = (runB c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u' r).1 := by
  unfold runB; dsimp only

/-- It leaves the row scales as they are. -/
theorem runB_scale (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    (runB c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.2.1 = r := by
  unfold runB; dsimp only; sl_unfold_run_names; exact harg14.read_unread _

/-- The last slab's point leaves the same result whatever normalized rows it finds. -/
theorem runC_out (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o o' : Vec F S1024x2048 .f32) (u u' : Vec F S1024x2048 .bf16) (r r' : Vec F S1024x1 .f32) :
    (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 = (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u' r).1 := by
  unfold runC; dsimp only

/-- It leaves the row scales as they are. -/
theorem runC_scale (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.2.1 = r := by
  unfold runC; dsimp only; sl_unfold_run_names; exact harg14.read_unread _

/-- It leaves the same normalized rows whatever it finds there. -/
theorem runC_rows (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : k0_cond4 i = 1#1) (hc5 : ¬ k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o o' : Vec F S1024x2048 .f32) (u u' : Vec F S1024x2048 .bf16) (r r' : Vec F S1024x1 .f32) :
    (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.1 = (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u' r).2.1 := by
  unfold runC; dsimp only; sl_unfold_run_names
  exact View.read_writes_of_cover _ _ _ _ _ (View.cover_of_tiledL _ S256x2048.size (by sl_kernel_rfl))

/-- A point with a slice of the embedding leaves the row scales as they are. -/
theorem runD_scale (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    (runD c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.2.1 = r := by
  unfold runD; dsimp only; sl_unfold_run_names; exact harg14.read_unread _

/-- A point with a slice of the embedding leaves the normalized rows as they are. -/
theorem runD_rows (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : ¬ k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    (runD c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.1 = u := by
  unfold runD; dsimp only; sl_unfold_run_names; exact harg13.read_unread _

/-- A point with a slice of the embedding leaves the row scales as they are. -/
theorem runE_scale (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    (runE c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.2.1 = r := by
  unfold runE; dsimp only; sl_unfold_run_names; exact harg14.read_unread _

/-- A point with a slice of the embedding leaves the normalized rows as they are. -/
theorem runE_rows (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : k0_cond6 i = 1#1)
    (x0 : Vec F S1024x2048 .bf16) (x1 : Vec F S1024x128 .f32) (x2 : Vec F S1x2048x1024 .bf16) (x3 : Vec F S1x1024x2048 .bf16) (x4 : Vec F S1024x256 .f32) (x5 : Vec F S1x1x2048 .f32) (x6 : Vec F S1x1024x256 .f32) (x7 : Vec F S1x2048x512 .f32) (x8 : Vec F S1x256x512 .f32) (x9 : Vec F S1x1x2048 .f32) (o : Vec F S1024x2048 .f32) (u : Vec F S1024x2048 .bf16) (r : Vec F S1024x1 .f32) :
    (runE c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.1 = u := by
  unfold runE; dsimp only; sl_unfold_run_names; exact harg13.read_unread _

end Cert.Kernel2Ideal.Ple

end
-- ==== Proof.Ple.State.lean ====
module

public import proofs.«01_k».proof.Proof.Ple.Indep

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## When the body's conditions hold -/

theorem cond1_iff : ∀ t : Fin grid0.N, k0_cond1 (grid0.coords t) = 1#1 ↔ t.val % 12 = 0 := by
  decide +kernel

theorem cond2_iff : ∀ t : Fin grid0.N, k0_cond2 (grid0.coords t) = 1#1 ↔ 0 < t.val % 12 ∧ t.val % 12 < 8 := by
  decide +kernel

theorem cond3_iff : ∀ t : Fin grid0.N, k0_cond3 (grid0.coords t) = 1#1 ↔ t.val % 12 < 8 := by
  decide +kernel

theorem cond4_iff : ∀ t : Fin grid0.N, k0_cond4 (grid0.coords t) = 1#1 ↔ t.val % 12 = 7 := by
  decide +kernel

theorem cond5_iff : ∀ t : Fin grid0.N, k0_cond5 (grid0.coords t) = 1#1 ↔ 8 ≤ t.val % 12 := by
  decide +kernel

theorem cond6_iff : ∀ t : Fin grid0.N, k0_cond6 (grid0.coords t) = 1#1 ↔ t.val % 12 = 11 := by
  decide +kernel

/-! ## The buffers at a point -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2048 .f32 := win0_10.stage (cfg0.slots t 10)
abbrev hs0_10 (t : Fin cfg0.N) : (ms0_10 t).IsWhole := hstage0_10 ((cfg0.slots t 10).cast nbuf0_10)
/-- The normalized rows' buffer. -/
abbrev scM0_0 : Memref sig .tc .vmem S1024x2048 .bf16 := Memref.whole cc0_scratch0
/-- The row scales' buffer. -/
abbrev scM0_1 : Memref sig .tc .vmem S1024x1 .f32 := Memref.whole cc0_scratch1

/-! ## What each kind of point does -/

/-- The result's block, the normalized rows and the row scales. -/
abbrev St (F : FTy → Type) : Type := Vec F S1024x2048 .f32 × Vec F S1024x2048 .bf16 × Vec F S1024x1 .f32

/-- The first point of a row block. -/
def atA (c : Dev nD) (t : Fin cfg0.N) (h : t.val % 12 = 0) (o : Vec F S1024x2048 .f32) (u : Vec F S1024x2048 .bf16) (r : Vec F S1024x1 .f32) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((cond1_iff t).mpr (by omega)) (fun h' => absurd ((cond2_iff t).mp h') (by omega)) ((cond3_iff t).mpr (by omega)) (fun h' => absurd ((cond4_iff t).mp h') (by omega)) (fun h' => absurd ((cond5_iff t).mp h') (by omega)) (fun h' => absurd ((cond6_iff t).mp h') (by omega)) (iblk m c 0 t) (iblk m c 1 t) (iblk m c 2 t) (iblk m c 3 t) (iblk m c 4 t) (iblk m c 5 t) (iblk m c 6 t) (iblk m c 7 t) (iblk m c 8 t) (iblk m c 9 t) o u r

/-- The points of the slabs between the first and the last. -/
def atB (c : Dev nD) (t : Fin cfg0.N) (h : 0 < t.val % 12 ∧ t.val % 12 < 7) (o : Vec F S1024x2048 .f32) (u : Vec F S1024x2048 .bf16) (r : Vec F S1024x1 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h' => absurd ((cond1_iff t).mp h') (by omega)) ((cond2_iff t).mpr (by omega)) ((cond3_iff t).mpr (by omega)) (fun h' => absurd ((cond4_iff t).mp h') (by omega)) (fun h' => absurd ((cond5_iff t).mp h') (by omega)) (fun h' => absurd ((cond6_iff t).mp h') (by omega)) (iblk m c 0 t) (iblk m c 1 t) (iblk m c 2 t) (iblk m c 3 t) (iblk m c 4 t) (iblk m c 5 t) (iblk m c 6 t) (iblk m c 7 t) (iblk m c 8 t) (iblk m c 9 t) o u r

/-- The point of the last slab. -/
def atC (c : Dev nD) (t : Fin cfg0.N) (h : t.val % 12 = 7) (o : Vec F S1024x2048 .f32) (u : Vec F S1024x2048 .bf16) (r : Vec F S1024x1 .f32) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h' => absurd ((cond1_iff t).mp h') (by omega)) ((cond2_iff t).mpr (by omega)) ((cond3_iff t).mpr (by omega)) ((cond4_iff t).mpr (by omega)) (fun h' => absurd ((cond5_iff t).mp h') (by omega)) (fun h' => absurd ((cond6_iff t).mp h') (by omega)) (iblk m c 0 t) (iblk m c 1 t) (iblk m c 2 t) (iblk m c 3 t) (iblk m c 4 t) (iblk m c 5 t) (iblk m c 6 t) (iblk m c 7 t) (iblk m c 8 t) (iblk m c 9 t) o u r

/-- The points that add a slice of the embedding. -/
def atD (c : Dev nD) (t : Fin cfg0.N) (h : 8 ≤ t.val % 12 ∧ t.val % 12 < 11) (o : Vec F S1024x2048 .f32) (u : Vec F S1024x2048 .bf16) (r : Vec F S1024x1 .f32) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr (by omega)) (fun h' => absurd ((cond6_iff t).mp h') (by omega)) (iblk m c 0 t) (iblk m c 1 t) (iblk m c 2 t) (iblk m c 3 t) (iblk m c 4 t) (iblk m c 5 t) (iblk m c 6 t) (iblk m c 7 t) (iblk m c 8 t) (iblk m c 9 t) o u r

/-- The last point of a row block. -/
def atE (c : Dev nD) (t : Fin cfg0.N) (h : t.val % 12 = 11) (o : Vec F S1024x2048 .f32) (u : Vec F S1024x2048 .bf16) (r : Vec F S1024x1 .f32) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h' => absurd ((cond1_iff t).mp h') (by omega)) (fun h' => absurd ((cond2_iff t).mp h') (by omega)) (fun h' => absurd ((cond3_iff t).mp h') (by omega)) (fun h' => absurd ((cond4_iff t).mp h') (by omega)) ((cond5_iff t).mpr (by omega)) ((cond6_iff t).mpr (by omega)) (iblk m c 0 t) (iblk m c 1 t) (iblk m c 2 t) (iblk m c 3 t) (iblk m c 4 t) (iblk m c 5 t) (iblk m c 6 t) (iblk m c 7 t) (iblk m c 8 t) (iblk m c 9 t) o u r

/-- What point `t` leaves of what it finds. -/
def step (c : Dev nD) (t : Fin cfg0.N) (o : Vec F S1024x2048 .f32) (u : Vec F S1024x2048 .bf16) (r : Vec F S1024x1 .f32) : St F :=
  if h : t.val % 12 = 0 then ((atA m c t h o u r).1, (atA m c t h o u r).2.1, (atA m c t h o u r).2.2.1)
  else if h : 0 < t.val % 12 ∧ t.val % 12 < 7 then ((atB m c t h o u r).1, (atB m c t h o u r).2.1, (atB m c t h o u r).2.2.1)
  else if h : t.val % 12 = 7 then ((atC m c t h o u r).1, (atC m c t h o u r).2.1, (atC m c t h o u r).2.2.1)
  else if h : 8 ≤ t.val % 12 ∧ t.val % 12 < 11 then ((atD m c t h o u r).1, (atD m c t h o u r).2.1, (atD m c t h o u r).2.2.1)
  else if h : t.val % 12 = 11 then ((atE m c t h o u r).1, (atE m c t h o u r).2.1, (atE m c t h o u r).2.2.1)
  else (o, u, r)

theorem step_A (c : Dev nD) (t : Fin cfg0.N) (h : t.val % 12 = 0) (o : Vec F S1024x2048 .f32) (u : Vec F S1024x2048 .bf16) (r : Vec F S1024x1 .f32) :
    step m c t o u r = ((atA m c t h o u r).1, (atA m c t h o u r).2.1, (atA m c t h o u r).2.2.1) := by
  unfold step; rw [dif_pos h]

theorem step_B (c : Dev nD) (t : Fin cfg0.N) (h : 0 < t.val % 12 ∧ t.val % 12 < 7) (o : Vec F S1024x2048 .f32) (u : Vec F S1024x2048 .bf16) (r : Vec F S1024x1 .f32) :
    step m c t o u r = ((atB m c t h o u r).1, (atB m c t h o u r).2.1, (atB m c t h o u r).2.2.1) := by
  unfold step; rw [dif_neg (by omega)]; rw [dif_pos h]

theorem step_C (c : Dev nD) (t : Fin cfg0.N) (h : t.val % 12 = 7) (o : Vec F S1024x2048 .f32) (u : Vec F S1024x2048 .bf16) (r : Vec F S1024x1 .f32) :
    step m c t o u r = ((atC m c t h o u r).1, (atC m c t h o u r).2.1, (atC m c t h o u r).2.2.1) := by
  unfold step; rw [dif_neg (by omega)]; rw [dif_neg (by omega)]; rw [dif_pos h]

theorem step_D (c : Dev nD) (t : Fin cfg0.N) (h : 8 ≤ t.val % 12 ∧ t.val % 12 < 11) (o : Vec F S1024x2048 .f32) (u : Vec F S1024x2048 .bf16) (r : Vec F S1024x1 .f32) :
    step m c t o u r = ((atD m c t h o u r).1, (atD m c t h o u r).2.1, (atD m c t h o u r).2.2.1) := by
  unfold step; rw [dif_neg (by omega)]; rw [dif_neg (by omega)]; rw [dif_neg (by omega)]; rw [dif_pos h]

theorem step_E (c : Dev nD) (t : Fin cfg0.N) (h : t.val % 12 = 11) (o : Vec F S1024x2048 .f32) (u : Vec F S1024x2048 .bf16) (r : Vec F S1024x1 .f32) :
    step m c t o u r = ((atE m c t h o u r).1, (atE m c t h o u r).2.1, (atE m c t h o u r).2.2.1) := by
  unfold step; rw [dif_neg (by omega)]; rw [dif_neg (by omega)]; rw [dif_neg (by omega)]; rw [dif_neg (by omega)]; rw [dif_pos h]

set_option maxHeartbeats 4000000 in
/-- Running the body at point `t`: the blocks stay, the three buffers go from what they hold to `step`. -/
theorem step_run (c : Dev nD) (t : Fin cfg0.N) (o : Vec F S1024x2048 .f32) (u : Vec F S1024x2048 .bf16) (r : Vec F S1024x1 .f32) (E : Set ℕ) (K : PUnit → sProp (MT nD τ sig Unit (Elt F) ℕ (UR sig nD τ) ℕ)) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare o ∗ owns (c : Thread nD τ) scM0_0 fullShare u ∗ owns (c : Thread nD τ) scM0_1 fullShare r
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (step m c t o u r).1 ∗ owns (c : Thread nD τ) scM0_0 fullShare (step m c t o u r).2.1 ∗ owns (c : Thread nD τ) scM0_1 fullShare (step m c t o u r).2.2) -∗ K ⟨⟩))
      ⊢ wp frame (wpE (defs₀ (F := F)) Variants.none c none) E (bodyAt0 t) K := by
  rcases (by omega : t.val % 12 = 0 ∨ (0 < t.val % 12 ∧ t.val % 12 < 7) ∨ t.val % 12 = 7 ∨ (8 ≤ t.val % 12 ∧ t.val % 12 < 11) ∨ t.val % 12 = 11) with h | h | h | h | h
  · rw [step_A m c t h o u r]
    generalize atA m c t h o u r = w
    obtain ⟨o', u', r', hw⟩ := w
    exact hw E K
  · rw [step_B m c t h o u r]
    generalize atB m c t h o u r = w
    obtain ⟨o', u', r', hw⟩ := w
    exact hw E K
  · rw [step_C m c t h o u r]
    generalize atC m c t h o u r = w
    obtain ⟨o', u', r', hw⟩ := w
    exact hw E K
  · rw [step_D m c t h o u r]
    generalize atD m c t h o u r = w
    obtain ⟨o', u', r', hw⟩ := w
    exact hw E K
  · rw [step_E m c t h o u r]
    generalize atE m c t h o u r = w
    obtain ⟨o', u', r', hw⟩ := w
    exact hw E K

/-- At the first point of a row block the result and the scales left do not depend on what it finds. -/
theorem step_first (c : Dev nD) (t : Fin cfg0.N) (h : t.val % 12 = 0) (o o' : Vec F S1024x2048 .f32) (u u' : Vec F S1024x2048 .bf16) (r r' : Vec F S1024x1 .f32) :
    (step m c t o u r).1 = (step m c t o' u' r').1 ∧ (step m c t o u r).2.2 = (step m c t o' u' r').2.2 := by
  rw [step_A m c t h o u r, step_A m c t h o' u' r']
  dsimp only; unfold atA
  exact ⟨runA_out .., runA_scale ..⟩

/-- At every other point up to the last slab's, they do not depend on the normalized rows found. -/
theorem step_slab (c : Dev nD) (t : Fin cfg0.N) (h : 0 < t.val % 12 ∧ t.val % 12 ≤ 7) (o o' : Vec F S1024x2048 .f32) (u u' : Vec F S1024x2048 .bf16) (r r' : Vec F S1024x1 .f32) :
    (step m c t o u r).1 = (step m c t o u' r).1 ∧ (step m c t o u r).2.2 = r := by
  rcases (by omega : (0 < t.val % 12 ∧ t.val % 12 < 7) ∨ t.val % 12 = 7) with h' | h'
  · rw [step_B m c t h' o u r, step_B m c t h' o u' r]
    dsimp only; unfold atB
    exact ⟨runB_out (o' := o) (r' := r) .., runB_scale ..⟩
  · rw [step_C m c t h' o u r, step_C m c t h' o u' r]
    dsimp only; unfold atC
    exact ⟨runC_out (o' := o) (r' := r) .., runC_scale ..⟩

/-- The last slab's point leaves the same normalized rows whatever it finds there. -/
theorem step_rows (c : Dev nD) (t : Fin cfg0.N) (h : t.val % 12 = 7) (o o' : Vec F S1024x2048 .f32) (u u' : Vec F S1024x2048 .bf16) (r r' : Vec F S1024x1 .f32) :
    (step m c t o u r).2.1 = (step m c t o u' r).2.1 := by
  rw [step_C m c t h o u r, step_C m c t h o u' r]
  dsimp only; unfold atC
  exact runC_rows (o' := o) (r' := r) ..

/-- Later points keep the normalized rows and the scales. -/
theorem step_late (c : Dev nD) (t : Fin cfg0.N) (h : 8 ≤ t.val % 12) (o : Vec F S1024x2048 .f32) (u : Vec F S1024x2048 .bf16) (r : Vec F S1024x1 .f32) :
    (step m c t o u r).2.1 = u ∧ (step m c t o u r).2.2 = r := by
  rcases (by omega : (8 ≤ t.val % 12 ∧ t.val % 12 < 11) ∨ t.val % 12 = 11) with h' | h'
  · rw [step_D m c t h' o u r]
    dsimp only; unfold atD
    exact ⟨runD_rows .., runD_scale ..⟩
  · rw [step_E m c t h' o u r]
    dsimp only; unfold atE
    exact ⟨runE_rows .., runE_scale ..⟩

/-- What the three buffers hold after point `n`, the first point starting from any contents. -/
def outsAt (c : Dev nD) : (n : ℕ) → n < cfg0.N → St F
  | 0, hn => step m c ⟨0, hn⟩ ((ms0_10 ⟨0, hn⟩).view.read (Elt F) (ms0_10 ⟨0, hn⟩).view.junk) (scM0_0.view.read (Elt F) scM0_0.view.junk) (scM0_1.view.read (Elt F) scM0_1.view.junk)
  | n + 1, hn => step m c ⟨n + 1, hn⟩ (outsAt c n (Nat.lt_of_succ_lt hn)).1 (outsAt c n (Nat.lt_of_succ_lt hn)).2.1 (outsAt c n (Nat.lt_of_succ_lt hn)).2.2

theorem outsAt_pos (c : Dev nD) (t : Fin cfg0.N) (h : t.val ≠ 0) :
    outsAt m c t.val t.isLt = step m c t (outsAt m c (t.val - 1) (Nat.lt_of_le_of_lt (Nat.sub_le _ _) t.isLt)).1
      (outsAt m c (t.val - 1) (Nat.lt_of_le_of_lt (Nat.sub_le _ _) t.isLt)).2.1
      (outsAt m c (t.val - 1) (Nat.lt_of_le_of_lt (Nat.sub_le _ _) t.isLt)).2.2 := by
  obtain ⟨n, hn⟩ := t
  cases n with
  | zero => exact absurd rfl h
  | succ n => rfl

/-- After the first point of a row block, from any contents. -/
theorem outsAt_first (c : Dev nD) (t : Fin cfg0.N) (h : t.val % 12 = 0) (o : Vec F S1024x2048 .f32) (u : Vec F S1024x2048 .bf16) (r : Vec F S1024x1 .f32) :
    (outsAt m c t.val t.isLt).1 = (step m c t o u r).1 ∧ (outsAt m c t.val t.isLt).2.2 = (step m c t o u r).2.2 := by
  by_cases hz : t.val = 0
  · obtain ⟨n, hn⟩ := t
    obtain rfl : n = 0 := hz
    exact step_first m c ⟨0, hn⟩ h ..
  · rw [outsAt_pos m c t hz]
    exact step_first m c t h ..

end Cert.Kernel2Ideal.Ple

end
-- ==== Proof.Ple.Pay.lean ====
module

public import proofs.«01_k».proof.Proof.Gen.Kernel2Ideal.Skeleton
public import Idealize.ShloMosaic.Lib.Pointwise

@[expose] public section

set_option maxRecDepth 16384

noncomputable section

namespace Cert.Kernel2Ideal.Ple

open Cert.Kernel2Ideal Cert.Kernel2Ideal.Gen
open Idealize.ShloMosaic Idealize.ShloMosaic.TcCoe Idealize.SL.Sem

/-! The body's arithmetic over the extended reals, entry by entry. -/

/-- The number added to a mean square. -/
def eps : EReal := Ideal.ofBits .f32 0x358637BD#32
/-- The inverse of the row length. -/
def inv2048 : EReal := Ideal.ofBits .f32 0x3A000000#32
/-- The row length. -/
def len2048 : EReal := Ideal.ofBits .f32 0x45000000#32

/-- The square of the positive part. -/
def relu2 (x : EReal) : EReal := max x 0 * max x 0
/-- One over the root mean square of a row with sum of squares `S`. -/
def rms (S : EReal) : EReal := Ideal.rsqrt (Ideal.div S len2048 + eps)
/-- The logistic function. -/
def logis (x : EReal) : EReal := Ideal.div 1 (1 + Ideal.exp (0 - x))

theorem zero_val : Ideal.ofBits .f32 0x00000000#32 = 0 := by simp [Ideal.ofBits, Ideal.ieee]

theorem pay10_at (v : Vec Ideal S1024x128 .f32) (a : Fin 1024) :
    k0_pay10 (F := Ideal) v (ix2 a 0) = Ideal.rsqrt ((∑ l : Fin 128, v (ix2 a l)) * inv2048 + eps) := by
  pointwise [k0_pay10]; rfl

theorem pay11_at (u : Vec Ideal S1024x2048 .bf16) (w : Vec Ideal S1x2048x1024 .bf16) (r : FVec Ideal S1024x1 .f32) (a k : Fin 1024) :
    k0_pay11 (F := Ideal) u w r (ix2 a k) = relu2 ((∑ j : Fin 2048, u (ix2 a j) * w (ix3 0 j k)) * r (ix2 a 0)) := by
  pointwise [k0_pay11, zero_val]; rfl

theorem pay14_at (u : Vec Ideal S1024x2048 .bf16) (w : Vec Ideal S1x2048x1024 .bf16) (r : FVec Ideal S1024x1 .f32) (a k : Fin 1024) :
    k0_pay14 (F := Ideal) u w r (ix2 a k) = relu2 ((∑ j : Fin 2048, u (ix2 a j) * w (ix3 0 j k)) * r (ix2 a 0)) := by
  pointwise [k0_pay14, zero_val]; rfl

theorem pay1_at (x : FVec Ideal S1024x1024 .bf16) (w : Vec Ideal S1x1024x512 .bf16) (a : Fin 1024) (b : Fin 512) :
    k0_pay1 (F := Ideal) x w (ix2 a b) = ∑ k : Fin 1024, x (ix2 a k) * w (ix3 0 k b) := by
  pointwise [k0_pay1]

theorem pay2_at (x : FVec Ideal S1024x1024 .bf16) (w : Vec Ideal S1x1024x512 .bf16) (a : Fin 1024) (b : Fin 512) :
    k0_pay2 (F := Ideal) x w (ix2 a b) = ∑ k : Fin 1024, x (ix2 a k) * w (ix3 0 k b) := by
  pointwise [k0_pay2]

theorem pay12_at (u : Vec Ideal S1024x2048 .bf16) (w : Vec Ideal S1x2048x1024 .bf16) (r : FVec Ideal S1024x1 .f32) (d : Vec Ideal S1x1024x512 .bf16) (a : Fin 1024) (b : Fin 512) :
    k0_pay12 (F := Ideal) u w r d (ix2 a b) = ∑ k : Fin 1024, k0_pay11 (F := Ideal) u w r (ix2 a k) * d (ix3 0 k b) := by
  pointwise [k0_pay12]

theorem pay13_at (u : Vec Ideal S1024x2048 .bf16) (w : Vec Ideal S1x2048x1024 .bf16) (r : FVec Ideal S1024x1 .f32) (d : Vec Ideal S1x1024x512 .bf16) (a : Fin 1024) (b : Fin 512) :
    k0_pay13 (F := Ideal) u w r d (ix2 a b) = ∑ k : Fin 1024, k0_pay11 (F := Ideal) u w r (ix2 a k) * d (ix3 0 k b) := by
  pointwise [k0_pay13]

theorem pay15_at (u : Vec Ideal S1024x2048 .bf16) (w : Vec Ideal S1x2048x1024 .bf16) (r : FVec Ideal S1024x1 .f32) (d : Vec Ideal S1x1024x512 .bf16) (o : Vec Ideal S1024x512 .f32) (a : Fin 1024) (b : Fin 512) :
    k0_pay15 (F := Ideal) u w r d o (ix2 a b) = o (ix2 a b) + ∑ k : Fin 1024, k0_pay14 (F := Ideal) u w r (ix2 a k) * d (ix3 0 k b) := by
  pointwise [k0_pay15]

theorem pay16_at (u : Vec Ideal S1024x2048 .bf16) (w : Vec Ideal S1x2048x1024 .bf16) (r : FVec Ideal S1024x1 .f32) (d : Vec Ideal S1x1024x512 .bf16) (o : Vec Ideal S1024x512 .f32) (a : Fin 1024) (b : Fin 512) :
    k0_pay16 (F := Ideal) u w r d o (ix2 a b) = o (ix2 a b) + ∑ k : Fin 1024, k0_pay14 (F := Ideal) u w r (ix2 a k) * d (ix3 0 k b) := by
  pointwise [k0_pay16]

theorem pay17_at (u : Vec Ideal S1024x2048 .bf16) (w : Vec Ideal S1x2048x1024 .bf16) (r : FVec Ideal S1024x1 .f32) (d : Vec Ideal S1x1024x512 .bf16) (a : Fin 1024) (b : Fin 512) :
    k0_pay17 (F := Ideal) u w r d (ix2 a b) = ∑ k : Fin 1024, k0_pay14 (F := Ideal) u w r (ix2 a k) * d (ix3 0 k b) := by
  pointwise [k0_pay17]

theorem pay3_at (x : FVec Ideal S1024x512 .f32) (o : Vec Ideal S1024x512 .f32) (a : Fin 1024) (b : Fin 512) :
    k0_pay3 (F := Ideal) x o (ix2 a b) = o (ix2 a b) + x (ix2 a b) := by
  pointwise [k0_pay3]

theorem pay4_at (x : FVec Ideal S1024x1024 .bf16) (w : Vec Ideal S1x1024x512 .bf16) (o : Vec Ideal S1024x512 .f32) (a : Fin 1024) (b : Fin 512) :
    k0_pay4 (F := Ideal) x w o (ix2 a b) = o (ix2 a b) + ∑ k : Fin 1024, x (ix2 a k) * w (ix3 0 k b) := by
  pointwise [k0_pay4]

theorem pay5_at (x y : Vec Ideal S1024x256 .f32) (a : Fin 1024) (b : Fin 256) :
    k0_pay5 (F := Ideal) x y (ix2 a b) = x (ix2 a b) + y (ix2 a b) := by
  pointwise [k0_pay5]

theorem pay6_at (g : Vec Ideal S1x1x2048 .f32) (x : Vec Ideal S256x2048 .f32) (a : Fin 256) (b : Fin 2048) :
    k0_pay6 (F := Ideal) g x (ix2 a b) = x (ix2 a b) * rms (∑ j : Fin 2048, x (ix2 a j) * x (ix2 a j)) * g (ix3 0 0 b) := by
  pointwise [k0_pay6]; rfl

theorem pay9_at (g : Vec Ideal S1x1x2048 .f32) (x : Vec Ideal S256x2048 .f32) (a : Fin 256) (b : Fin 2048) :
    k0_pay9 (F := Ideal) g x (ix2 a b) = x (ix2 a b) * rms (∑ j : Fin 2048, x (ix2 a j) * x (ix2 a j)) * g (ix3 0 0 b) := by
  pointwise [k0_pay9]; rfl

theorem pay18_at (p : Vec Ideal S1x1024x256 .f32) (a : Fin 1024) (b : Fin 256) :
    k0_pay18 (F := Ideal) p (ix2 a b) = p (ix3 0 a b) := by
  pointwise [k0_pay18]

theorem pay19_at (u : Vec Ideal S1024x2048 .bf16) (w : Vec Ideal S1x2048x256 .f32) (a : Fin 1024) (b : Fin 256) :
    k0_pay19 (F := Ideal) u w (ix2 a b) = logis (∑ j : Fin 2048, u (ix2 a j) * w (ix3 0 j b)) := by
  pointwise [k0_pay19, zero_val]; rfl

theorem pay20_at (w : Vec Ideal S1x256x256 .f32) (a b : Fin 256) :
    k0_pay20 (F := Ideal) w (ix2 a b) = w (ix3 0 a b) := by
  pointwise [k0_pay20]

theorem pay7_at (p : FVec Ideal S1024x256 .bf16) (s : FVec Ideal S1024x256 .f32) (w : FVec Ideal S256x256 .bf16) (o : Vec Ideal S1024x256 .f32) (a : Fin 1024) (b : Fin 256) :
    k0_pay7 (F := Ideal) p s w (constant S1024x256 .f32 0x00000000#32) o (ix2 a b)
      = o (ix2 a b) + (∑ q : Fin 256, p (ix2 a q) * w (ix2 q b)) * s (ix2 a b) := by
  pointwise [k0_pay7]

theorem pay8_at (p : FVec Ideal S1024x256 .bf16) (u : Vec Ideal S1024x2048 .bf16) (w : Vec Ideal S1x2048x256 .f32) (e : Vec Ideal S1x256x256 .f32) (o : Vec Ideal S1024x256 .f32) (a : Fin 1024) (b : Fin 256) :
    k0_pay8 (F := Ideal) p u w e o (ix2 a b)
      = o (ix2 a b) + (∑ q : Fin 256, p (ix2 a q) * e (ix3 0 q b)) * logis (∑ j : Fin 2048, u (ix2 a j) * w (ix3 0 j b)) := by
  pointwise [k0_pay8, zero_val]; rfl

end Cert.Kernel2Ideal.Ple

end
-- ==== Proof.Ple.Blocks.lean ====
module

public import proofs.«01_k».proof.Proof.Ple.State
public import proofs.«01_k».proof.Proof.Ple.Pay
public import Idealize.ShloMosaic.Lib.Pointwise
public import Idealize.ShloMosaic.Lib.Pipeline.ValueKit

@[expose] public section

set_option maxRecDepth 16384

noncomputable section

namespace Cert.Kernel2Ideal.Ple

open Cert.Kernel2Ideal Cert.Kernel2Ideal.Gen
open Idealize.ShloMosaic Idealize.ShloMosaic.TcCoe Idealize.SL.Sem

variable (m : (ℓ : Loc nD τ sig) → Buf (Elt Ideal) ℓ)

/-- The slab that a point is at: every second row block goes through them backwards. -/
def slabOf (b s : ℕ) : ℕ := if b % 2 = 0 then min s 7 else 7 - min s 7
/-- The slice of columns that a point of the embedding is at, likewise. -/
def sliceOf (b s : ℕ) : ℕ := if b % 2 = 0 then s - 8 else 3 - (s - 8)

/-- Which block of its array each window of the call is at. -/
theorem idx : ∀ t : Fin cfg0.N, win0_0.index t = ![t.val / 12, 0] ∧ win0_1.index t = ![t.val / 12, 0]
    ∧ win0_2.index t = ![0, 0, slabOf (t.val / 12) (t.val % 12)] ∧ win0_3.index t = ![0, slabOf (t.val / 12) (t.val % 12), 0]
    ∧ win0_4.index t = ![t.val / 12, min (t.val % 12) 7] ∧ win0_5.index t = ![1, 0, 0] ∧ win0_6.index t = ![1, t.val / 12, 0]
    ∧ win0_7.index t = ![1, 0, sliceOf (t.val / 12) (t.val % 12)] ∧ win0_8.index t = ![1, 0, sliceOf (t.val / 12) (t.val % 12)]
    ∧ win0_9.index t = ![0, 0, 0] ∧ win0_10.index t = ![t.val / 12, 0] :=
  (by decide +kernel : ∀ t : Fin grid0.N, _)

theorem pieceCol_eq : ∀ t : Fin grid0.N, t.val % 12 < 8 → pieceCol (grid0.coords t) = 256 * (t.val % 12) := by decide +kernel
theorem sliceCol_eq : ∀ t : Fin grid0.N, 8 ≤ t.val % 12 → sliceCol (grid0.coords t) = 512 * sliceOf (t.val / 12) (t.val % 12) := by decide +kernel

theorem t_lt (t : Fin cfg0.N) : t.val < 96 := t.isLt
theorem slabOf_lt (b s : ℕ) : slabOf b s < 8 := by unfold slabOf; split <;> omega
theorem sliceOf_lt (b s : ℕ) (h : s < 12) : sliceOf b s < 4 := by unfold sliceOf; split <;> omega

/-- A row of a block, in the whole array. -/
def row (t : Fin cfg0.N) (a : Fin 1024) : Fin 8192 := ⟨1024 * (t.val / 12) + a.val, by have := t_lt t; omega⟩
/-- A column of a slab, among all the hidden columns. -/
def hcol (t : Fin cfg0.N) (k : Fin 1024) : Fin 8192 := ⟨1024 * slabOf (t.val / 12) (t.val % 12) + k.val, by have := slabOf_lt (t.val / 12) (t.val % 12); omega⟩
/-- A column of a piece of the residual. -/
def pcol (t : Fin cfg0.N) (b : Fin 256) : Fin 2048 := ⟨256 * min (t.val % 12) 7 + b.val, by omega⟩
/-- A column of a slice of the embedding. -/
def ecol (t : Fin cfg0.N) (b : Fin 512) : Fin 2048 := ⟨512 * sliceOf (t.val / 12) (t.val % 12) + b.val, by have := sliceOf_lt (t.val / 12) (t.val % 12) (by omega); omega⟩

theorem blk_0 (c : Dev nD) (t : Fin cfg0.N) (a : Fin 1024) (j : Fin 2048) : iblk m c 0 t (ix2 a j) = V m c main_v5 (ix2 (row t a) j) := by
  unfold iblk
  refine congrArg (V m c main_v5) ?_
  unfold row
  blk_ext [idx t]

theorem blk_1 (c : Dev nD) (t : Fin cfg0.N) (a : Fin 1024) (l : Fin 128) : iblk m c 1 t (ix2 a l) = V m c main_v8 (ix2 (row t a) l) := by
  unfold iblk
  refine congrArg (V m c main_v8) ?_
  unfold row
  blk_ext [idx t]

theorem blk_2 (c : Dev nD) (t : Fin cfg0.N) (j : Fin 2048) (k : Fin 1024) : iblk m c 2 t (ix3 0 j k) = V m c main_v10 (ix3 0 j (hcol t k)) := by
  unfold iblk
  refine congrArg (V m c main_v10) ?_
  unfold hcol
  blk_ext [idx t]

theorem blk_3 (c : Dev nD) (t : Fin cfg0.N) (k : Fin 1024) (C : Fin 2048) : iblk m c 3 t (ix3 0 k C) = V m c main_v12 (ix3 0 (hcol t k) C) := by
  unfold iblk
  refine congrArg (V m c main_v12) ?_
  unfold hcol
  blk_ext [idx t]

theorem blk_4 (c : Dev nD) (t : Fin cfg0.N) (a : Fin 1024) (b : Fin 256) : iblk m c 4 t (ix2 a b) = V m c main_arg0 (ix2 (row t a) (pcol t b)) := by
  unfold iblk
  refine congrArg (V m c main_arg0) ?_
  unfold row pcol
  blk_ext [idx t]

theorem blk_5 (c : Dev nD) (t : Fin cfg0.N) (j : Fin 2048) : iblk m c 5 t (ix3 0 0 j) = V m c main_v14 (ix3 1 0 j) := by
  unfold iblk
  refine congrArg (V m c main_v14) ?_
  blk_ext [idx t]

theorem blk_6 (c : Dev nD) (t : Fin cfg0.N) (a : Fin 1024) (q : Fin 256) : iblk m c 6 t (ix3 0 a q) = V m c main_arg5 (ix3 1 (row t a) q) := by
  unfold iblk
  refine congrArg (V m c main_arg5) ?_
  unfold row
  blk_ext [idx t]

theorem blk_7 (c : Dev nD) (t : Fin cfg0.N) (j : Fin 2048) (b : Fin 512) : iblk m c 7 t (ix3 0 j b) = V m c main_arg6 (ix3 1 j (ecol t b)) := by
  unfold iblk
  refine congrArg (V m c main_arg6) ?_
  unfold ecol
  blk_ext [idx t]

theorem blk_8 (c : Dev nD) (t : Fin cfg0.N) (q : Fin 256) (b : Fin 512) : iblk m c 8 t (ix3 0 q b) = V m c main_arg7 (ix3 1 q (ecol t b)) := by
  unfold iblk
  refine congrArg (V m c main_arg7) ?_
  unfold ecol
  blk_ext [idx t]

theorem blk_9 (c : Dev nD) (t : Fin cfg0.N) (j : Fin 2048) : iblk m c 9 t (ix3 0 0 j) = V m c main_v13 (ix3 0 0 j) := by
  unfold iblk
  refine congrArg (V m c main_v13) ?_
  blk_ext [idx t]

/-! The arrays that the host computes. -/

def uArr (h : FVec Ideal S8192x2048 .f32) (g : FVec Ideal S2x2048 .f32) : FVec Ideal S8192x2048 .bf16 :=
  truncf .bf16 (mulf h (broadcastInDim S8192x2048 ![0, 1] bcast_S1x2048_S8192x2048_0_1 (broadcastInDim S1x2048 ![1] bcast_S2048_S1x2048_1 (shapeCast S2048 (extractStridedSlice S1x2048 ![1, 0] g slices_S2x2048_S1x2048_1_0 : FVec Ideal S1x2048 .f32) shapeCasts_S1x2048_S2048 : FVec Ideal S2048 .f32) : FVec Ideal S1x2048 .f32)) : FVec Ideal S8192x2048 .f32) bitsLt_bf16_f32
def ssArr (h : FVec Ideal S8192x2048 .f32) : FVec Ideal S8192x128 .f32 :=
  Host.reduceAdd (shapeCast S8192x16x128 (mulf h h : FVec Ideal S8192x2048 .f32) shapeCasts_S8192x2048_S8192x16x128 : FVec Ideal S8192x16x128 .f32) (constant S_ .f32 0x00000000#32) reducesTo_S8192x16x128_S8192x128_d1 h_S_
def upArr (w : FVec Ideal S2x2048x8192 .f32) : FVec Ideal S1x2048x8192 .bf16 :=
  truncf .bf16 (extractStridedSlice S1x2048x8192 ![1, 0, 0] w slices_S2x2048x8192_S1x2048x8192_1_0_0 : FVec Ideal S1x2048x8192 .f32) bitsLt_bf16_f32
def downArr (w : FVec Ideal S2x8192x2048 .f32) : FVec Ideal S1x8192x2048 .bf16 :=
  truncf .bf16 (extractStridedSlice S1x8192x2048 ![1, 0, 0] w slices_S2x8192x2048_S1x8192x2048_1_0_0 : FVec Ideal S1x8192x2048 .f32) bitsLt_bf16_f32
def lastGain (g : FVec Ideal S2048 .f32) : FVec Ideal S1x1x2048 .f32 := shapeCast S1x1x2048 g shapeCasts_S2048_S1x1x2048
def embGain (g : FVec Ideal S2x2048 .f32) : FVec Ideal S2x1x2048 .f32 := shapeCast S2x1x2048 g shapeCasts_S2x2048_S2x1x2048

theorem V_v5 (c : Dev nD) : V m c main_v5 = uArr (m ((c : Thread nD τ).loc main_arg0)) (m ((c : Thread nD τ).loc main_arg1)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_v8 (c : Dev nD) : V m c main_v8 = ssArr (m ((c : Thread nD τ).loc main_arg0)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_v10 (c : Dev nD) : V m c main_v10 = upArr (m ((c : Thread nD τ).loc main_arg2)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_v12 (c : Dev nD) : V m c main_v12 = downArr (m ((c : Thread nD τ).loc main_arg3)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_v13 (c : Dev nD) : V m c main_v13 = lastGain (m ((c : Thread nD τ).loc main_arg8)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem V_v14 (c : Dev nD) : V m c main_v14 = embGain (m ((c : Thread nD τ).loc main_arg4)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem u_at (h : FVec Ideal S8192x2048 .f32) (g : FVec Ideal S2x2048 .f32) (R : Fin 8192) (j : Fin 2048) :
    uArr h g (ix2 R j) = h (ix2 R j) * g (ix2 1 j) := by
  pointwise [uArr]
theorem ss_at (h : FVec Ideal S8192x2048 .f32) (R : Fin 8192) (l : Fin 128) :
    ssArr h (ix2 R l) = ∑ g : Fin 16, h (ix2 R ⟨g.val * 128 + l.val, by omega⟩) * h (ix2 R ⟨g.val * 128 + l.val, by omega⟩) := by
  pointwise [ssArr, zero_val]
theorem up_at (w : FVec Ideal S2x2048x8192 .f32) (j : Fin 2048) (K : Fin 8192) : upArr w (ix3 0 j K) = w (ix3 1 j K) := by
  pointwise [upArr]
theorem down_at (w : FVec Ideal S2x8192x2048 .f32) (K : Fin 8192) (C : Fin 2048) : downArr w (ix3 0 K C) = w (ix3 1 K C) := by
  pointwise [downArr]
theorem lastGain_at (g : FVec Ideal S2048 .f32) (j : Fin 2048) : lastGain g (ix3 0 0 j) = g (ix1 j) := by
  pointwise [lastGain]
theorem embGain_at (g : FVec Ideal S2x2048 .f32) (j : Fin 2048) : embGain g (ix3 1 0 j) = g (ix2 1 j) := by
  pointwise [embGain]

end Cert.Kernel2Ideal.Ple

end
-- ==== Proof.Ple.Reads.lean ====
module

public import proofs.«01_k».proof.Proof.Gen.Kernel2Ideal.Skeleton
public import Idealize.ShloMosaic.Lib.Pointwise
public import Idealize.ShloMosaic.Lib.WritesUnit
public import Idealize.ShloMosaic.Lib.VecWindow

@[expose] public section

set_option maxRecDepth 16384

noncomputable section

namespace Cert.Ple

open Idealize.ShloMosaic Idealize.ShloMosaic.TcCoe Idealize.SL.Sem

/-! Reading a buffer of rank two after stores of whole columns or whole rows, entry by entry. -/

variable {Val : EltTy → Type} {sig : RefSig} {κ : Kind} {sp : Space} {e : EltTy} {n0 n1 : ℕ}

section
variable (v : View sig κ sp (⟨2, ![n0, n1]⟩ : Shape) e) (f : v.ty.Contents Val)

/-- An entry in the columns of the newest store reads its payload. -/
theorem read_cols_in {off : Fin 2 → ℕ} {o w : ℕ} (hoff : off = ![0, o]) (inb : ∀ a, off a + (![n0, w] : Fin 2 → ℕ) a ≤ (⟨2, ![n0, n1]⟩ : Shape).size a)
    (P : (⟨2, ![n0, w]⟩ : Shape).Idx → Val e) (L : List (View.Piece Val (⟨2, ![n0, n1]⟩ : Shape) e)) (a : Fin n0) (C : Fin n1) (b : Fin w) (hC : C.val = o + b.val) :
    v.read Val (v.writes Val f ((⟨Rect.unit (s := ⟨2, ![n0, n1]⟩) off ![n0, w] inb, P⟩ : View.Piece Val _ e) :: L)) (ix2 a C) = P (ix2 a b) :=
  View.read_writes_cons_unit_of_mem v f inb P L (ix2 a C) (ix2 a b) hoff (fun k => by
    match k with
    | ⟨0, _⟩ => exact (Nat.zero_add a.val).symm
    | ⟨1, _⟩ => exact hC)

/-- An entry outside them reads what was there before. -/
theorem read_cols_out {off : Fin 2 → ℕ} {o w : ℕ} (hoff : off = ![0, o]) (inb : ∀ a, off a + (![n0, w] : Fin 2 → ℕ) a ≤ (⟨2, ![n0, n1]⟩ : Shape).size a)
    (P : (⟨2, ![n0, w]⟩ : Shape).Idx → Val e) (L : List (View.Piece Val (⟨2, ![n0, n1]⟩ : Shape) e)) (a : Fin n0) (C : Fin n1) (hC : C.val < o ∨ o + w ≤ C.val) :
    v.read Val (v.writes Val f ((⟨Rect.unit (s := ⟨2, ![n0, n1]⟩) off ![n0, w] inb, P⟩ : View.Piece Val _ e) :: L)) (ix2 a C) = v.read Val (v.writes Val f L) (ix2 a C) :=
  View.read_writes_cons_unit_of_not_mem v f inb P L (ix2 a C) hoff 1 hC

/-- An entry in the rows of the newest store reads its payload. -/
theorem read_rows_in {off : Fin 2 → ℕ} {o w : ℕ} (hoff : off = ![o, 0]) (inb : ∀ a, off a + (![w, n1] : Fin 2 → ℕ) a ≤ (⟨2, ![n0, n1]⟩ : Shape).size a)
    (P : (⟨2, ![w, n1]⟩ : Shape).Idx → Val e) (L : List (View.Piece Val (⟨2, ![n0, n1]⟩ : Shape) e)) (a : Fin n0) (C : Fin n1) (b : Fin w) (hC : a.val = o + b.val) :
    v.read Val (v.writes Val f ((⟨Rect.unit (s := ⟨2, ![n0, n1]⟩) off ![w, n1] inb, P⟩ : View.Piece Val _ e) :: L)) (ix2 a C) = P (ix2 b C) :=
  View.read_writes_cons_unit_of_mem v f inb P L (ix2 a C) (ix2 b C) hoff (fun k => by
    match k with
    | ⟨0, _⟩ => exact hC
    | ⟨1, _⟩ => exact (Nat.zero_add C.val).symm)

/-- An entry outside them reads what was there before. -/
theorem read_rows_out {off : Fin 2 → ℕ} {o w : ℕ} (hoff : off = ![o, 0]) (inb : ∀ a, off a + (![w, n1] : Fin 2 → ℕ) a ≤ (⟨2, ![n0, n1]⟩ : Shape).size a)
    (P : (⟨2, ![w, n1]⟩ : Shape).Idx → Val e) (L : List (View.Piece Val (⟨2, ![n0, n1]⟩ : Shape) e)) (a : Fin n0) (C : Fin n1) (hC : a.val < o ∨ o + w ≤ a.val) :
    v.read Val (v.writes Val f ((⟨Rect.unit (s := ⟨2, ![n0, n1]⟩) off ![w, n1] inb, P⟩ : View.Piece Val _ e) :: L)) (ix2 a C) = v.read Val (v.writes Val f L) (ix2 a C) :=
  View.read_writes_cons_unit_of_not_mem v f inb P L (ix2 a C) hoff 0 hC

/-- A load of columns. -/
theorem load_cols {off : Fin 2 → ℕ} {o w : ℕ} (hoff : off = ![0, o]) (inb : ∀ a, off a + (![n0, w] : Fin 2 → ℕ) a ≤ (⟨2, ![n0, n1]⟩ : Shape).size a)
    (a : Fin n0) (b : Fin w) (C : Fin n1) (hC : C.val = o + b.val) :
    v.readAt Val (Rect.unit (s := ⟨2, ![n0, n1]⟩) off ![n0, w] inb).toLoadRect f (ix2 a b) = v.read Val f (ix2 a C) := by
  subst hoff
  rw [View.readAt_apply]
  refine congrArg (v.read Val f) (funext fun k => Fin.ext ?_)
  match k with
  | ⟨0, _⟩ => show 0 + 1 * a.val = a.val; omega
  | ⟨1, _⟩ => show o + 1 * b.val = C.val; omega

/-- A load of rows. -/
theorem load_rows {off : Fin 2 → ℕ} {o w : ℕ} (hoff : off = ![o, 0]) (inb : ∀ a, off a + (![w, n1] : Fin 2 → ℕ) a ≤ (⟨2, ![n0, n1]⟩ : Shape).size a)
    (a : Fin w) (b : Fin n1) (A : Fin n0) (hA : A.val = o + a.val) :
    v.readAt Val (Rect.unit (s := ⟨2, ![n0, n1]⟩) off ![w, n1] inb).toLoadRect f (ix2 a b) = v.read Val f (ix2 A b) := by
  subst hoff
  rw [View.readAt_apply]
  refine congrArg (v.read Val f) (funext fun k => Fin.ext ?_)
  match k with
  | ⟨0, _⟩ => show o + 1 * a.val = A.val; omega
  | ⟨1, _⟩ => show 0 + 1 * b.val = b.val; omega
end

/-- A load of columns of a buffer of rank three with one leading entry. -/
theorem load_cols3 (v : View sig κ sp (⟨3, ![1, n0, n1]⟩ : Shape) e) (f : v.ty.Contents Val) {o w : ℕ}
    (inb : ∀ a, (![0, 0, o] : Fin 3 → ℕ) a + (![1, n0, w] : Fin 3 → ℕ) a ≤ (⟨3, ![1, n0, n1]⟩ : Shape).size a)
    (a : Fin n0) (b : Fin w) (C : Fin n1) (hC : C.val = o + b.val) :
    v.readAt Val (Rect.unit (s := ⟨3, ![1, n0, n1]⟩) ![0, 0, o] ![1, n0, w] inb).toLoadRect f (ix3 0 a b) = v.read Val f (ix3 0 a C) := by
  rw [View.readAt_apply]
  refine congrArg (v.read Val f) (funext fun k => Fin.ext ?_)
  match k with
  | ⟨0, _⟩ => rfl
  | ⟨1, _⟩ => show 0 + 1 * a.val = a.val; omega
  | ⟨2, _⟩ => show o + 1 * b.val = C.val; omega

/-- Four stores of 512 columns each, every entry of which is `G`'s, leave `G`. -/
theorem read_four (v : View sig κ sp (⟨2, ![n0, 2048]⟩ : Shape) e) (f : v.ty.Contents Val)
    (i0 : ∀ a, (![0, 0] : Fin 2 → ℕ) a + (![n0, 512] : Fin 2 → ℕ) a ≤ (⟨2, ![n0, 2048]⟩ : Shape).size a)
    (i1 : ∀ a, (![0, 512] : Fin 2 → ℕ) a + (![n0, 512] : Fin 2 → ℕ) a ≤ (⟨2, ![n0, 2048]⟩ : Shape).size a)
    (i2 : ∀ a, (![0, 1024] : Fin 2 → ℕ) a + (![n0, 512] : Fin 2 → ℕ) a ≤ (⟨2, ![n0, 2048]⟩ : Shape).size a)
    (i3 : ∀ a, (![0, 1536] : Fin 2 → ℕ) a + (![n0, 512] : Fin 2 → ℕ) a ≤ (⟨2, ![n0, 2048]⟩ : Shape).size a)
    (P0 P1 P2 P3 : (⟨2, ![n0, 512]⟩ : Shape).Idx → Val e) (G : Fin n0 → Fin 2048 → Val e)
    (h0 : ∀ (a : Fin n0) (b : Fin 512) (C : Fin 2048), C.val = 0 + b.val → P0 (ix2 a b) = G a C)
    (h1 : ∀ (a : Fin n0) (b : Fin 512) (C : Fin 2048), C.val = 512 + b.val → P1 (ix2 a b) = G a C)
    (h2 : ∀ (a : Fin n0) (b : Fin 512) (C : Fin 2048), C.val = 1024 + b.val → P2 (ix2 a b) = G a C)
    (h3 : ∀ (a : Fin n0) (b : Fin 512) (C : Fin 2048), C.val = 1536 + b.val → P3 (ix2 a b) = G a C)
    (a : Fin n0) (C : Fin 2048) :
    v.read Val (v.writes Val f
      [⟨Rect.unit (s := ⟨2, ![n0, 2048]⟩) ![0, 1536] ![n0, 512] i3, P3⟩, ⟨Rect.unit (s := ⟨2, ![n0, 2048]⟩) ![0, 1024] ![n0, 512] i2, P2⟩,
       ⟨Rect.unit (s := ⟨2, ![n0, 2048]⟩) ![0, 512] ![n0, 512] i1, P1⟩, ⟨Rect.unit (s := ⟨2, ![n0, 2048]⟩) ![0, 0] ![n0, 512] i0, P0⟩]) (ix2 a C) = G a C := by
  have hC := C.isLt
  by_cases c3 : 1536 ≤ C.val
  · rw [read_cols_in v f rfl i3 P3 _ a C ⟨C.val - 1536, by omega⟩ (by dsimp only; omega)]
    exact h3 a _ C (by dsimp only; omega)
  rw [read_cols_out v f rfl i3 P3 _ a C (by omega)]
  by_cases c2 : 1024 ≤ C.val
  · rw [read_cols_in v f rfl i2 P2 _ a C ⟨C.val - 1024, by omega⟩ (by dsimp only; omega)]
    exact h2 a _ C (by dsimp only; omega)
  rw [read_cols_out v f rfl i2 P2 _ a C (by omega)]
  by_cases c1 : 512 ≤ C.val
  · rw [read_cols_in v f rfl i1 P1 _ a C ⟨C.val - 512, by omega⟩ (by dsimp only; omega)]
    exact h1 a _ C (by dsimp only; omega)
  rw [read_cols_out v f rfl i1 P1 _ a C (by omega)]
  rw [read_cols_in v f rfl i0 P0 _ a C ⟨C.val, by omega⟩ (by dsimp only; omega)]
  exact h0 a _ C (by dsimp only; omega)

end Cert.Ple

end
-- ==== Proof.Ple.Slab.lean ====
module

public import proofs.«01_k».proof.Proof.Ple.Pay
public import proofs.«01_k».proof.Proof.Ple.Reads
public import proofs.«01_k».proof.Proof.Ple.Offsets

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

/-- What one slab of 1024 hidden columns adds to an entry of the result: the squared positive parts of the
rows' scaled products with the slab of the first matrix, times the slab of the second. -/
def slab (x0 : Vec Ideal S1024x2048 .bf16) (x2 : Vec Ideal S1x2048x1024 .bf16) (x3 : Vec Ideal S1x1024x2048 .bf16) (r : Fin 1024 → EReal)
    (a : Fin 1024) (C : Fin 2048) : EReal :=
  ∑ k : Fin 1024, relu2 ((∑ j : Fin 2048, x0 (ix2 a j) * x2 (ix3 0 j k)) * r a) * x3 (ix3 0 k C)

/-- The piece of the residual that the point adds: a block of 256 columns. -/
def piece (p : ℕ) (x4 : Vec Ideal S1024x256 .f32) (a : Fin 1024) (C : Fin 2048) : EReal :=
  if h : p ≤ C.val ∧ C.val < p + 256 then x4 (ix2 a ⟨C.val - p, by omega⟩) else 0

/-- The slice of the embedding term that the point adds: a block of 512 columns. -/
def slice (p : ℕ) (u : Vec Ideal S1024x2048 .bf16) (x6 : Vec Ideal S1x1024x256 .f32) (x7 : Vec Ideal S1x2048x512 .f32) (x8 : Vec Ideal S1x256x512 .f32) (a : Fin 1024) (C : Fin 2048) : EReal :=
  if h : p ≤ C.val ∧ C.val < p + 512 then
    (∑ q : Fin 256, x6 (ix3 0 a q) * x8 (ix3 0 q ⟨C.val - p, by omega⟩)) * logis (∑ j : Fin 2048, u (ix2 a j) * x7 (ix3 0 j ⟨C.val - p, by omega⟩))
  else 0

/-- A row over its root mean square, times the gains. -/
def normed (H : Fin 1024 → Fin 2048 → EReal) (g : Vec Ideal S1x1x2048 .f32) (a : Fin 1024) (C : Fin 2048) : EReal :=
  H a C * rms (∑ j : Fin 2048, H a j * H a j) * g (ix3 0 0 C)

theorem normed_congr {H H' : Fin 1024 → Fin 2048 → EReal} {g g' : Vec Ideal S1x1x2048 .f32} (h : ∀ a C, H a C = H' a C) (hg : g = g') (a : Fin 1024) (C : Fin 2048) :
    normed H g a C = normed H' g' a C := by
  obtain rfl : H = H' := funext fun a => funext fun C => h a C
  subst hg; rfl

theorem load_all {sig : RefSig} {κ : Kind} {sp : Space} {s : Shape} {e : EltTy} (m : Memref sig κ sp s e) (h : m.IsWhole) {off : Fin s.rank → ℕ}
    (x : s.Idx → Elt Ideal e) (inb : ∀ a, off a + s.size a ≤ s.size a) :
    m.view.readAt (Elt Ideal) (Rect.unit off s.size inb).toLoadRect (h.unread x) = x := by
  rw [View.readAt_full]; exact h.read_unread x

section
variable {x0 u : Vec Ideal S1024x2048 .bf16} {x2 w : Vec Ideal S1x2048x1024 .bf16} {x3 : Vec Ideal S1x1024x2048 .bf16} {d : Vec Ideal S1x1024x512 .bf16}
  {r' : FVec Ideal S1024x1 .f32} {r : Fin 1024 → EReal} {a : Fin 1024} {b : Fin 512} {C : Fin 2048}

theorem slab_of11 (hu : u = x0) (hw : w = x2) (hr : r' (ix2 a 0) = r a) (hd : ∀ k : Fin 1024, d (ix3 0 k b) = x3 (ix3 0 k C)) :
    (∑ k : Fin 1024, k0_pay11 (F := Ideal) u w r' (ix2 a k) * d (ix3 0 k b)) = slab x0 x2 x3 r a C := by
  subst hu hw
  exact Finset.sum_congr rfl fun k _ => by rw [pay11_at, hd, hr]

theorem slab_of14 (hu : u = x0) (hw : w = x2) (hr : r' (ix2 a 0) = r a) (hd : ∀ k : Fin 1024, d (ix3 0 k b) = x3 (ix3 0 k C)) :
    (∑ k : Fin 1024, k0_pay14 (F := Ideal) u w r' (ix2 a k) * d (ix3 0 k b)) = slab x0 x2 x3 r a C := by
  subst hu hw
  exact Finset.sum_congr rfl fun k _ => by rw [pay14_at, hd, hr]
end

theorem load_down (m : Memref sig .tc .vmem S1x1024x2048 .bf16) (h : m.IsWhole) (x3 : Vec Ideal S1x1024x2048 .bf16) {o : ℕ}
    (inb : ∀ a, (![0, 0, o] : Fin 3 → ℕ) a + (![1, 1024, 512] : Fin 3 → ℕ) a ≤ (⟨3, ![1, 1024, 2048]⟩ : Shape).size a)
    (k : Fin 1024) (b : Fin 512) (C : Fin 2048) (hC : C.val = o + b.val) :
    m.view.readAt (Elt Ideal) (Rect.unit (s := ⟨3, ![1, 1024, 2048]⟩) ![0, 0, o] ![1, 1024, 512] inb).toLoadRect (h.unread x3) (ix3 0 k b) = x3 (ix3 0 k C) :=
  (load_cols3 m.view (h.unread x3) inb k b C hC).trans (congrFun (h.read_unread x3) _)

theorem load_old (m : Memref sig .tc .vmem S1024x2048 .f32) (h : m.IsWhole) (o : Vec Ideal S1024x2048 .f32) {p w : ℕ} {off : Fin 2 → ℕ} (hoff : off = ![0, p])
    (inb : ∀ a, off a + (![1024, w] : Fin 2 → ℕ) a ≤ (⟨2, ![1024, 2048]⟩ : Shape).size a)
    (a : Fin 1024) (b : Fin w) (C : Fin 2048) (hC : C.val = p + b.val) :
    m.view.readAt (Elt Ideal) (Rect.unit (s := ⟨2, ![1024, 2048]⟩) off ![1024, w] inb).toLoadRect (h.unread o) (ix2 a b) = o (ix2 a C) :=
  (load_cols m.view (h.unread o) hoff inb a b C hC).trans (congrFun (h.read_unread o) _)

theorem cov_scale (m : Memref sig .tc .vmem S1024x1 .f32) (inb : ∀ a, (![0, 0] : Fin 2 → ℕ) a + S1024x1.size a ≤ S1024x1.size a) (P : Vec Ideal S1024x1 .f32)
    (inb' : ∀ a, (![0, 0] : Fin 2 → ℕ) a + S1024x1.size a ≤ S1024x1.size a) (a : Fin 1024) :
    m.view.readCov (Val := Elt Ideal) [⟨Rect.unit ![0, 0] S1024x1.size inb, P⟩] (Rect.unit ![0, 0] S1024x1.size inb').toLoadRect (ix2 a 0) = P (ix2 a 0) := by
  unfold View.readCov
  rw [View.readAt_full]
  exact read_cols_in (n0 := 1024) (n1 := 1) (w := 1) (o := 0) _ _ rfl _ _ _ a 0 0 rfl

end Cert.Kernel2Ideal.Ple

end
-- ==== Proof.Ple.ValA.lean ====
module

public import proofs.«01_k».proof.Proof.Ple.Pay
public import proofs.«01_k».proof.Proof.Ple.Reads
public import proofs.«01_k».proof.Proof.Ple.RunA
public import proofs.«01_k».proof.Proof.Ple.Slab

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

/-- The result at an entry. -/
theorem valA (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : k0_cond1 i = 1#1) (hc2 : ¬ k0_cond2 i = 1#1) (hc3 : k0_cond3 i = 1#1) (hc4 : ¬ k0_cond4 i = 1#1) (hc5 : ¬ k0_cond5 i = 1#1) (hc6 : ¬ k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) (C : Fin 2048) :
    (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 (ix2 a C)
      = slab x0 x2 x3 (fun a => k0_pay10 (F := Ideal) x1 (ix2 a 0)) a C + piece (pieceCol i) x4 a C := by
  unfold runA; dsimp only; sl_unfold_run_names; dsimp only
  have hp := (piece_off i).eq

  unfold piece
  split
  · rename_i h
    refine (read_cols_in (n0 := 1024) (n1 := 2048) (w := 256) (o := pieceCol i) _ _ hp _ _ _ a C ⟨C.val - pieceCol i, by omega⟩ (by dsimp only; omega)).trans ?_
    refine (pay5_at _ _ a _).trans (congrArg₂ (· + ·) ?_ (congrFun (load_all _ harg6 _ _) _))
    refine (load_cols (n0 := 1024) (n1 := 2048) (w := 256) (o := pieceCol i) _ _ hp _ a _ C (by dsimp only; omega)).trans ?_
    exact read_four (Val := Elt Ideal) (e := .f32) (n0 := 1024) _ _ _ _ _ _ _ _ _ _ (fun a C => slab x0 x2 x3 (fun a => k0_pay10 (F := Ideal) x1 (ix2 a 0)) a C)
      (fun a b C hC => (pay12_at _ _ _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC))
      (fun a b C hC => (pay13_at _ _ _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC))
      (fun a b C hC => (pay1_at _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC))
      (fun a b C hC => (pay2_at _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC)) a C
  · rename_i h
    refine (read_cols_out (n0 := 1024) (n1 := 2048) (w := 256) (o := pieceCol i) _ _ hp _ _ _ a C (by omega)).trans ?_
    refine Eq.trans ?_ (add_zero _).symm
    exact read_four (Val := Elt Ideal) (e := .f32) (n0 := 1024) _ _ _ _ _ _ _ _ _ _ (fun a C => slab x0 x2 x3 (fun a => k0_pay10 (F := Ideal) x1 (ix2 a 0)) a C)
      (fun a b C hC => (pay12_at _ _ _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC))
      (fun a b C hC => (pay13_at _ _ _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC))
      (fun a b C hC => (pay1_at _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC))
      (fun a b C hC => (pay2_at _ _ a b).trans (slab_of11 (load_all _ harg2 _ _) (load_all _ harg4 _ _) ((cov_scale _ _ _ _ a).trans (congrFun (congrArg (k0_pay10 (F := Ideal)) (load_all _ harg3 x1 _)) _)) fun k => load_down _ harg5 _ _ k b C hC)) a C

/-- The row scales. -/
theorem scaleA (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : k0_cond1 i = 1#1) (hc2 : ¬ k0_cond2 i = 1#1) (hc3 : k0_cond3 i = 1#1) (hc4 : ¬ k0_cond4 i = 1#1) (hc5 : ¬ k0_cond5 i = 1#1) (hc6 : ¬ k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) :
    (runA c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.2.1 (ix2 a 0) = k0_pay10 (F := Ideal) x1 (ix2 a 0) := by
  unfold runA; dsimp only; sl_unfold_run_names
  refine (read_cols_in (n0 := 1024) (n1 := 1) (w := 1) (o := 0) _ _ rfl _ _ _ a 0 0 rfl).trans ?_
  exact congrFun (congrArg (k0_pay10 (F := Ideal)) (load_all _ harg3 x1 _)) _

end Cert.Kernel2Ideal.Ple

end
-- ==== Proof.Ple.ValB.lean ====
module

public import proofs.«01_k».proof.Proof.Ple.Pay
public import proofs.«01_k».proof.Proof.Ple.Reads
public import proofs.«01_k».proof.Proof.Ple.RunB
public import proofs.«01_k».proof.Proof.Ple.Slab

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

/-- The result at an entry. -/
theorem valB (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : ¬ k0_cond4 i = 1#1) (hc5 : ¬ k0_cond5 i = 1#1) (hc6 : ¬ k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) (C : Fin 2048) :
    (runB c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 (ix2 a C)
      = o (ix2 a C) + slab x0 x2 x3 (fun a => r (ix2 a 0)) a C + piece (pieceCol i) x4 a C := by
  unfold runB; dsimp only; sl_unfold_run_names
  have hp := (piece_off i).eq

  unfold piece
  split
  · rename_i h
    refine (read_cols_in (n0 := 1024) (n1 := 2048) (w := 256) (o := pieceCol i) _ _ hp _ _ _ a C ⟨C.val - pieceCol i, by omega⟩ (by dsimp only; omega)).trans ?_
    refine (pay5_at _ _ a _).trans (congrArg₂ (· + ·) ?_ (congrFun (load_all _ harg6 _ _) _))
    refine (load_cols (n0 := 1024) (n1 := 2048) (w := 256) (o := pieceCol i) _ _ hp _ a _ C (by dsimp only; omega)).trans ?_
    exact read_four (n0 := 1024) _ _ _ _ _ _ _ _ _ _ (fun a C => o (ix2 a C) + slab x0 x2 x3 (fun a => r (ix2 a 0)) a C)
      (fun a b C hC => (pay15_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay16_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay3_at _ _ a b).trans (congrArg₂ (· + ·) (load_old _ harg12 o rfl _ a b C hC) ((pay17_at _ _ _ _ a b).trans (slab_of14 (load_all _ harg2 _ _) (load_all _ harg4 _ _) (congrFun (load_all _ harg14 r _) _) fun k => load_down _ harg5 _ _ k b C hC))))
      (fun a b C hC => (pay4_at _ _ _ a b).trans (congrArg₂ (· + ·) (load_old _ harg12 o rfl _ a b C hC) (slab_of14 (load_all _ harg2 _ _) (load_all _ harg4 _ _) (congrFun (load_all _ harg14 r _) _) fun k => load_down _ harg5 _ _ k b C hC))) a C
  · rename_i h
    refine (read_cols_out (n0 := 1024) (n1 := 2048) (w := 256) (o := pieceCol i) _ _ hp _ _ _ a C (by omega)).trans ?_
    refine Eq.trans ?_ (add_zero _).symm
    exact read_four (n0 := 1024) _ _ _ _ _ _ _ _ _ _ (fun a C => o (ix2 a C) + slab x0 x2 x3 (fun a => r (ix2 a 0)) a C)
      (fun a b C hC => (pay15_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay16_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay3_at _ _ a b).trans (congrArg₂ (· + ·) (load_old _ harg12 o rfl _ a b C hC) ((pay17_at _ _ _ _ a b).trans (slab_of14 (load_all _ harg2 _ _) (load_all _ harg4 _ _) (congrFun (load_all _ harg14 r _) _) fun k => load_down _ harg5 _ _ k b C hC))))
      (fun a b C hC => (pay4_at _ _ _ a b).trans (congrArg₂ (· + ·) (load_old _ harg12 o rfl _ a b C hC) (slab_of14 (load_all _ harg2 _ _) (load_all _ harg4 _ _) (congrFun (load_all _ harg14 r _) _) fun k => load_down _ harg5 _ _ k b C hC))) a C

end Cert.Kernel2Ideal.Ple

end
-- ==== Proof.Ple.ValC.lean ====
module

public import proofs.«01_k».proof.Proof.Ple.Pay
public import proofs.«01_k».proof.Proof.Ple.Reads
public import proofs.«01_k».proof.Proof.Ple.RunC
public import proofs.«01_k».proof.Proof.Ple.Slab

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

/-- The result at an entry. -/
theorem valC (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : k0_cond4 i = 1#1) (hc5 : ¬ k0_cond5 i = 1#1) (hc6 : ¬ k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) (C : Fin 2048) :
    (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 (ix2 a C)
      = o (ix2 a C) + slab x0 x2 x3 (fun a => r (ix2 a 0)) a C + piece (pieceCol i) x4 a C := by
  unfold runC; dsimp only; sl_unfold_run_names
  have hp := (piece_off i).eq

  unfold piece
  split
  · rename_i h
    refine (read_cols_in (n0 := 1024) (n1 := 2048) (w := 256) (o := pieceCol i) _ _ hp _ _ _ a C ⟨C.val - pieceCol i, by omega⟩ (by dsimp only; omega)).trans ?_
    refine (pay5_at _ _ a _).trans (congrArg₂ (· + ·) ?_ (congrFun (load_all _ harg6 _ _) _))
    refine (load_cols (n0 := 1024) (n1 := 2048) (w := 256) (o := pieceCol i) _ _ hp _ a _ C (by dsimp only; omega)).trans ?_
    exact read_four (n0 := 1024) _ _ _ _ _ _ _ _ _ _ (fun a C => o (ix2 a C) + slab x0 x2 x3 (fun a => r (ix2 a 0)) a C)
      (fun a b C hC => (pay15_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay16_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay3_at _ _ a b).trans (congrArg₂ (· + ·) (load_old _ harg12 o rfl _ a b C hC) ((pay17_at _ _ _ _ a b).trans (slab_of14 (load_all _ harg2 _ _) (load_all _ harg4 _ _) (congrFun (load_all _ harg14 r _) _) fun k => load_down _ harg5 _ _ k b C hC))))
      (fun a b C hC => (pay4_at _ _ _ a b).trans (congrArg₂ (· + ·) (load_old _ harg12 o rfl _ a b C hC) (slab_of14 (load_all _ harg2 _ _) (load_all _ harg4 _ _) (congrFun (load_all _ harg14 r _) _) fun k => load_down _ harg5 _ _ k b C hC))) a C
  · rename_i h
    refine (read_cols_out (n0 := 1024) (n1 := 2048) (w := 256) (o := pieceCol i) _ _ hp _ _ _ a C (by omega)).trans ?_
    refine Eq.trans ?_ (add_zero _).symm
    exact read_four (n0 := 1024) _ _ _ _ _ _ _ _ _ _ (fun a C => o (ix2 a C) + slab x0 x2 x3 (fun a => r (ix2 a 0)) a C)
      (fun a b C hC => (pay15_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay16_at _ _ _ _ _ a b).trans (congrArg₂ (· + ·) (load_old _ harg12 o rfl _ a b C hC) (slab_of14 (load_all _ harg2 _ _) (load_all _ harg4 _ _) (congrFun (load_all _ harg14 r _) _) fun k => load_down _ harg5 _ _ k b C hC)))
      (fun a b C hC => (pay3_at _ _ a b).trans (congrArg₂ (· + ·) (load_old _ harg12 o rfl _ a b C hC) ((pay17_at _ _ _ _ a b).trans (slab_of14 (load_all _ harg2 _ _) (load_all _ harg4 _ _) (congrFun (load_all _ harg14 r _) _) fun k => load_down _ harg5 _ _ k b C hC))))
      (fun a b C hC => (pay4_at _ _ _ a b).trans (congrArg₂ (· + ·) (load_old _ harg12 o rfl _ a b C hC) (slab_of14 (load_all _ harg2 _ _) (load_all _ harg4 _ _) (congrFun (load_all _ harg14 r _) _) fun k => load_down _ harg5 _ _ k b C hC))) a C

end Cert.Kernel2Ideal.Ple

end
-- ==== Proof.Ple.ValD.lean ====
module

public import proofs.«01_k».proof.Proof.Ple.Pay
public import proofs.«01_k».proof.Proof.Ple.Reads
public import proofs.«01_k».proof.Proof.Ple.RunD
public import proofs.«01_k».proof.Proof.Ple.Slab

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

theorem load_gate (m : Memref sig .tc .vmem S1x2048x512 .f32) (h : m.IsWhole) (x7 : Vec Ideal S1x2048x512 .f32) {o : ℕ}
    (inb : ∀ a, (![0, 0, o] : Fin 3 → ℕ) a + (![1, 2048, 256] : Fin 3 → ℕ) a ≤ (⟨3, ![1, 2048, 512]⟩ : Shape).size a)
    (k : Fin 2048) (b : Fin 256) (C : Fin 512) (hC : C.val = o + b.val) :
    m.view.readAt (Elt Ideal) (Rect.unit (s := ⟨3, ![1, 2048, 512]⟩) ![0, 0, o] ![1, 2048, 256] inb).toLoadRect (h.unread x7) (ix3 0 k b) = x7 (ix3 0 k C) :=
  (load_cols3 m.view (h.unread x7) inb k b C hC).trans (congrFun (h.read_unread x7) _)

theorem load_emb (m : Memref sig .tc .vmem S1x256x512 .f32) (h : m.IsWhole) (x8 : Vec Ideal S1x256x512 .f32) {o : ℕ}
    (inb : ∀ a, (![0, 0, o] : Fin 3 → ℕ) a + (![1, 256, 256] : Fin 3 → ℕ) a ≤ (⟨3, ![1, 256, 512]⟩ : Shape).size a)
    (k : Fin 256) (b : Fin 256) (C : Fin 512) (hC : C.val = o + b.val) :
    m.view.readAt (Elt Ideal) (Rect.unit (s := ⟨3, ![1, 256, 512]⟩) ![0, 0, o] ![1, 256, 256] inb).toLoadRect (h.unread x8) (ix3 0 k b) = x8 (ix3 0 k C) :=
  (load_cols3 m.view (h.unread x8) inb k b C hC).trans (congrFun (h.read_unread x8) _)

theorem half_sum {p p' : Fin 256 → EReal} {e e' : Fin 256 → EReal} {u u' w w' : Fin 2048 → EReal} (hp : ∀ q, p q = p' q) (he : ∀ q, e q = e' q) (hu : ∀ j, u j = u' j) (hw : ∀ j, w j = w' j) :
    (∑ q, p q * e q) * logis (∑ j, u j * w j) = (∑ q, p' q * e' q) * logis (∑ j, u' j * w' j) := by
  obtain rfl := funext hp; obtain rfl := funext he; obtain rfl := funext hu; obtain rfl := funext hw; rfl

/-- The result at an entry. -/
theorem valD (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : ¬ k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) (C : Fin 2048) :
    (runD c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 (ix2 a C)
      = o (ix2 a C) + slice (sliceCol i) u x6 x7 x8 a C := by
  unfold runD; dsimp only; sl_unfold_run_names
  have hp1 := (slice_first i).eq
  have hp2 := (slice_second i).eq
  have hq := slice_second_at i
  by_cases h : sliceCol i ≤ C.val ∧ C.val < sliceCol i + 512
  · have h' := h
    rw [slice, dif_pos h]
    by_cases h2 : sliceCol i + 256 ≤ C.val
    · refine (read_cols_in (n0 := 1024) (n1 := 2048) (w := 256) (o := sliceCol i + 256) _ _ hp2 _ _ _ a C ⟨C.val - (sliceCol i + 256), by omega⟩ (by dsimp only; omega)).trans ?_
      refine (pay8_at _ _ _ _ _ a _).trans (congrArg₂ (· + ·) (load_old _ harg12 o hp2 _ a _ C (by dsimp only; omega)) ?_)
      exact half_sum (fun q => (pay18_at _ a q).trans (congrFun (load_all _ harg8 x6 _) _)) (fun q => load_emb _ harg10 x8 _ q _ _ (by dsimp only; omega))
        (fun j => congrFun (load_all _ harg13 u _) _) (fun j => load_gate _ harg9 x7 _ j _ _ (by dsimp only; omega))
    · refine (read_cols_out (n0 := 1024) (n1 := 2048) (w := 256) (o := sliceCol i + 256) _ _ hp2 _ _ _ a C (by omega)).trans ?_
      refine (read_cols_in (n0 := 1024) (n1 := 2048) (w := 256) (o := sliceCol i) _ _ hp1 _ _ _ a C ⟨C.val - sliceCol i, by omega⟩ (by dsimp only; omega)).trans ?_
      refine (pay7_at _ _ _ _ a _).trans (congrArg₂ (· + ·) (load_old _ harg12 o hp1 _ a _ C (by dsimp only; omega)) ?_)
      refine (congrArg (_ * ·) (pay19_at _ _ a _)).trans ?_
      exact half_sum (fun q => (pay18_at _ a q).trans (congrFun (load_all _ harg8 x6 _) _)) (fun q => (pay20_at _ q _).trans (load_emb _ harg10 x8 _ q _ _ (by dsimp only; omega)))
        (fun j => congrFun (load_all _ harg13 u _) _) (fun j => load_gate _ harg9 x7 _ j _ _ (by dsimp only; omega))
  · rw [slice, dif_neg h, add_zero]
    refine (read_cols_out (n0 := 1024) (n1 := 2048) (w := 256) (o := sliceCol i + 256) _ _ hp2 _ _ _ a C (by omega)).trans ?_
    refine (read_cols_out (n0 := 1024) (n1 := 2048) (w := 256) (o := sliceCol i) _ _ hp1 _ _ _ a C (by omega)).trans ?_
    exact congrFun (harg12.read_unread o) _

end Cert.Kernel2Ideal.Ple

end
-- ==== Proof.Ple.Loop2.lean ====
module

public import proofs.«01_k».proof.Proof.Ple.Pay
public import proofs.«01_k».proof.Proof.Ple.Reads
public import proofs.«01_k».proof.Proof.Ple.Slab

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

theorem off4_val : ∀ k : Fin k0_t2_loop.trips, k0_off4 k = ![256 * k.val, 0] := by decide +kernel
theorem trips2 : k0_t2_loop.trips = 4 := by decide +kernel

/-- One trip's store: 256 rows, normalized. -/
theorem trip2_eq (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (k0_h6 : k0_cond6 i = 1#1) (v20 : Vec Ideal S1x1x2048 .f32) (k : Fin k0_t2_loop.trips) (g : BufTy.Contents (Elt Ideal) arg12.view.ty) :
    (trip_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h6 v20 k).1 g = [⟨Rect.unit (s := S1024x2048) (k0_off4 k) S256x2048.size (k0_off4_inb i k k0_h6),
      k0_pay9 (F := Ideal) v20 (arg12.view.readAt (Elt Ideal) (Rect.unit (s := S1024x2048) (k0_off4 k) S256x2048.size (k0_off4_inb i k k0_h6)).toLoadRect g)⟩] := by
  unfold trip_k0_t2; rfl

/-- After `n` trips the first `256 n` rows are normalized and the others as they were. -/
theorem loop2 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (k0_h6 : k0_cond6 i = 1#1) (v20 : Vec Ideal S1x1x2048 .f32) (G_arg12 : BufTy.Contents (Elt Ideal) arg12.view.ty) : ∀ n : ℕ, n ≤ 4 → ∀ (a : Fin 1024) (C : Fin 2048),
    arg12.view.read (Elt Ideal) (arg12.view.writes (Elt Ideal) G_arg12 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h6 v20 G_arg12 n)) (ix2 a C)
      = if a.val < 256 * n then normed (fun a C => arg12.view.read (Elt Ideal) G_arg12 (ix2 a C)) v20 a C else arg12.view.read (Elt Ideal) G_arg12 (ix2 a C) := by
  intro n
  induction n with
  | zero => intro _ a C; rw [if_neg (by omega)]; rfl
  | succ n ih =>
    intro hn a C
    have hk : n < k0_t2_loop.trips := by rw [trips2]; omega
    rw [pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 k0_h6 v20 G_arg12 ⟨n, hk⟩]
    unfold tripL_k0_t2
    rw [trip2_eq]
    have ho := off4_val ⟨n, hk⟩
    dsimp only at ho
    by_cases h1 : 256 * n ≤ a.val ∧ a.val < 256 * n + 256
    · rw [if_pos (by omega)]
      refine (read_rows_in (n0 := 1024) (n1 := 2048) (w := 256) (o := 256 * n) _ _ ho _ _ _ a C ⟨a.val - 256 * n, by omega⟩ (by dsimp only; omega)).trans ?_
      refine (pay9_at _ _ _ C).trans ?_
      have hl : ∀ D : Fin 2048, arg12.view.readAt (Elt Ideal) (Rect.unit (s := S1024x2048) (k0_off4 ⟨n, hk⟩) S256x2048.size (k0_off4_inb i ⟨n, hk⟩ k0_h6)).toLoadRect (arg12.view.writes (Elt Ideal) G_arg12 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h6 v20 G_arg12 n)) (ix2 (⟨a.val - 256 * n, by omega⟩ : Fin 256) D)
          = arg12.view.read (Elt Ideal) G_arg12 (ix2 a D) := fun D =>
        (load_rows (n0 := 1024) (n1 := 2048) (w := 256) (o := 256 * n) _ _ ho _ _ D a (by dsimp only; omega)).trans ((ih (by omega) a D).trans (if_neg (by omega)))
      simp only [hl]
      rfl
    · refine (read_rows_out (n0 := 1024) (n1 := 2048) (w := 256) (o := 256 * n) _ _ ho _ _ _ a C (by omega)).trans ?_
      refine (ih (by omega) a C).trans ?_
      by_cases h2 : a.val < 256 * n
      · rw [if_pos h2, if_pos (by omega)]
      · rw [if_neg h2, if_neg (by omega)]

end Cert.Kernel2Ideal.Ple

end
-- ==== Proof.Ple.ValE.lean ====
module

public import proofs.«01_k».proof.Proof.Ple.Pay
public import proofs.«01_k».proof.Proof.Ple.Reads
public import proofs.«01_k».proof.Proof.Ple.RunE
public import proofs.«01_k».proof.Proof.Ple.ValD
public import proofs.«01_k».proof.Proof.Ple.Loop2

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

/-- The result at an entry. -/
theorem valE (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) (C : Fin 2048) :
    (runE c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 (ix2 a C)
      = normed (fun a C => o (ix2 a C) + slice (sliceCol i) u x6 x7 x8 a C) x9 a C := by
  unfold runE; dsimp only; sl_unfold_run_names
  have hp1 := (slice_first i).eq
  have hp2 := (slice_second i).eq
  have hq := slice_second_at i
  have e : Scf.trips (0#32) (Scalar.addi 0#32 4#32) 1#32 = 4 := by decide +kernel
  rw [e, View.writes_append]
  refine (loop2 _ _ _ _ _ _ _ _ _ _ _ _ _ _ _ _ _ _ _ _ _ _ _ _ _ _ _ _ _ _ _ 4 le_rfl a C).trans ((if_pos (by omega)).trans ?_)
  refine normed_congr (fun a C => ?_) (load_all _ harg11 x9 _) a C
  by_cases h : sliceCol i ≤ C.val ∧ C.val < sliceCol i + 512
  · have h' := h
    rw [slice, dif_pos h]
    by_cases h2 : sliceCol i + 256 ≤ C.val
    · refine (read_cols_in (n0 := 1024) (n1 := 2048) (w := 256) (o := sliceCol i + 256) _ _ hp2 _ _ _ a C ⟨C.val - (sliceCol i + 256), by omega⟩ (by dsimp only; omega)).trans ?_
      refine (pay8_at _ _ _ _ _ a _).trans (congrArg₂ (· + ·) (load_old _ harg12 o hp2 _ a _ C (by dsimp only; omega)) ?_)
      exact half_sum (fun q => (pay18_at _ a q).trans (congrFun (load_all _ harg8 x6 _) _)) (fun q => load_emb _ harg10 x8 _ q _ _ (by dsimp only; omega))
        (fun j => congrFun (load_all _ harg13 u _) _) (fun j => load_gate _ harg9 x7 _ j _ _ (by dsimp only; omega))
    · refine (read_cols_out (n0 := 1024) (n1 := 2048) (w := 256) (o := sliceCol i + 256) _ _ hp2 _ _ _ a C (by omega)).trans ?_
      refine (read_cols_in (n0 := 1024) (n1 := 2048) (w := 256) (o := sliceCol i) _ _ hp1 _ _ _ a C ⟨C.val - sliceCol i, by omega⟩ (by dsimp only; omega)).trans ?_
      refine (pay7_at _ _ _ _ a _).trans (congrArg₂ (· + ·) (load_old _ harg12 o hp1 _ a _ C (by dsimp only; omega)) ?_)
      refine (congrArg (_ * ·) (pay19_at _ _ a _)).trans ?_
      exact half_sum (fun q => (pay18_at _ a q).trans (congrFun (load_all _ harg8 x6 _) _)) (fun q => (pay20_at _ q _).trans (load_emb _ harg10 x8 _ q _ _ (by dsimp only; omega)))
        (fun j => congrFun (load_all _ harg13 u _) _) (fun j => load_gate _ harg9 x7 _ j _ _ (by dsimp only; omega))
  · rw [slice, dif_neg h, add_zero]
    refine (read_cols_out (n0 := 1024) (n1 := 2048) (w := 256) (o := sliceCol i + 256) _ _ hp2 _ _ _ a C (by omega)).trans ?_
    refine (read_cols_out (n0 := 1024) (n1 := 2048) (w := 256) (o := sliceCol i) _ _ hp1 _ _ _ a C (by omega)).trans ?_
    exact congrFun (harg12.read_unread o) _

end Cert.Kernel2Ideal.Ple

end
-- ==== Proof.Ple.Loop1.lean ====
module

public import proofs.«01_k».proof.Proof.Ple.Pay
public import proofs.«01_k».proof.Proof.Ple.Reads
public import proofs.«01_k».proof.Proof.Ple.Slab

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

theorem off2_val : ∀ k : Fin k0_t1_loop.trips, k0_off2 k = ![256 * k.val, 0] := by decide +kernel
theorem trips1 : k0_t1_loop.trips = 4 := by decide +kernel

/-- One trip's store: 256 rows, normalized. -/
theorem trip1_eq (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (k0_h4 : k0_cond4 i = 1#1) (v20 : Vec Ideal S1x1x2048 .f32) (X_arg12 : BufTy.Contents (Elt Ideal) arg12.view.ty) (k : Fin k0_t1_loop.trips) :
    (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h4 v20 X_arg12 k).1 = [⟨Rect.unit (s := S1024x2048) (k0_off2 k) S256x2048.size (k0_off2_inb i k k0_h4),
      k0_pay6 (F := Ideal) v20 (arg12.view.readAt (Elt Ideal) (Rect.unit (s := S1024x2048) (k0_off2 k) S256x2048.size (k0_off2_inb i k k0_h4)).toLoadRect X_arg12)⟩] := by
  unfold trip_k0_t1; rfl

/-- After `n` trips the first `256 n` rows are normalized and the others as they were. -/
theorem loop1 (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (k0_h4 : k0_cond4 i = 1#1) (v20 : Vec Ideal S1x1x2048 .f32) (X_arg12 : BufTy.Contents (Elt Ideal) arg12.view.ty) (f : BufTy.Contents (Elt Ideal) arg13.view.ty) : ∀ n : ℕ, n ≤ 4 → ∀ (a : Fin 1024) (C : Fin 2048),
    arg13.view.read (Elt Ideal) (arg13.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 k0_h4 v20 X_arg12 n)) (ix2 a C)
      = if a.val < 256 * n then normed (fun a C => arg12.view.read (Elt Ideal) X_arg12 (ix2 a C)) v20 a C else arg13.view.read (Elt Ideal) f (ix2 a C) := by
  intro n
  induction n with
  | zero => intro _ a C; rw [if_neg (by omega)]; rfl
  | succ n ih =>
    intro hn a C
    have hk : n < k0_t1_loop.trips := by rw [trips1]; omega
    rw [pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 k0_h4 v20 X_arg12 ⟨n, hk⟩]
    unfold tripL_k0_t1
    rw [trip1_eq]
    have ho := off2_val ⟨n, hk⟩
    dsimp only at ho
    by_cases h1 : 256 * n ≤ a.val ∧ a.val < 256 * n + 256
    · rw [if_pos (by omega)]
      refine (read_rows_in (n0 := 1024) (n1 := 2048) (w := 256) (o := 256 * n) _ _ ho _ _ _ a C ⟨a.val - 256 * n, by omega⟩ (by dsimp only; omega)).trans ?_
      refine (pay6_at _ _ _ C).trans ?_
      have hl : ∀ D : Fin 2048, arg12.view.readAt (Elt Ideal) (Rect.unit (s := S1024x2048) (k0_off2 ⟨n, hk⟩) S256x2048.size (k0_off2_inb i ⟨n, hk⟩ k0_h4)).toLoadRect X_arg12 (ix2 (⟨a.val - 256 * n, by omega⟩ : Fin 256) D)
          = arg12.view.read (Elt Ideal) X_arg12 (ix2 a D) := fun D =>
        (load_rows (n0 := 1024) (n1 := 2048) (w := 256) (o := 256 * n) _ _ ho _ _ D a (by dsimp only; omega))
      simp only [hl]
      rfl
    · refine (read_rows_out (n0 := 1024) (n1 := 2048) (w := 256) (o := 256 * n) _ _ ho _ _ _ a C (by omega)).trans ?_
      refine (ih (by omega) a C).trans ?_
      by_cases h2 : a.val < 256 * n
      · rw [if_pos h2, if_pos (by omega)]
      · rw [if_neg h2, if_neg (by omega)]

end Cert.Kernel2Ideal.Ple

end
-- ==== Proof.Ple.RowsC.lean ====
module

public import proofs.«01_k».proof.Proof.Ple.Pay
public import proofs.«01_k».proof.Proof.Ple.Reads
public import proofs.«01_k».proof.Proof.Ple.RunC
public import proofs.«01_k».proof.Proof.Ple.Loop1

@[expose] public section

set_option maxRecDepth 16384
set_option maxHeartbeats 2000000

noncomputable section

namespace Cert.Kernel2Ideal.Ple

open Cert.Kernel2Ideal Cert.Kernel2Ideal.Gen Cert.Ple
open Idealize.ShloMosaic Idealize.ShloMosaic.TcCoe Idealize.SL.Sem
open Idealize.ShloMosaic.Tactic

/-- The rows kept for the embedding are the result's, normalized. -/
theorem rowsC (c : Dev nD) (i : grid0.Coords) (arg2 : Memref sig .tc .vmem S1024x2048 .bf16) (harg2 : arg2.IsWhole) (arg3 : Memref sig .tc .vmem S1024x128 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1024x256 .f32) (harg6 : arg6.IsWhole) (arg7 : Memref sig .tc .vmem S1x1x2048 .f32) (harg7 : arg7.IsWhole) (arg8 : Memref sig .tc .vmem S1x1024x256 .f32) (harg8 : arg8.IsWhole) (arg9 : Memref sig .tc .vmem S1x2048x512 .f32) (harg9 : arg9.IsWhole) (arg10 : Memref sig .tc .vmem S1x256x512 .f32) (harg10 : arg10.IsWhole) (arg11 : Memref sig .tc .vmem S1x1x2048 .f32) (harg11 : arg11.IsWhole) (arg12 : Memref sig .tc .vmem S1024x2048 .f32) (harg12 : arg12.IsWhole) (arg13 : Memref sig .tc .vmem S1024x2048 .bf16) (harg13 : arg13.IsWhole) (arg14 : Memref sig .tc .vmem S1024x1 .f32) (harg14 : arg14.IsWhole) (hc1 : ¬ k0_cond1 i = 1#1) (hc2 : k0_cond2 i = 1#1) (hc3 : k0_cond3 i = 1#1) (hc4 : k0_cond4 i = 1#1) (hc5 : ¬ k0_cond5 i = 1#1) (hc6 : ¬ k0_cond6 i = 1#1)
    (x0 : Vec Ideal S1024x2048 .bf16) (x1 : Vec Ideal S1024x128 .f32) (x2 : Vec Ideal S1x2048x1024 .bf16) (x3 : Vec Ideal S1x1024x2048 .bf16) (x4 : Vec Ideal S1024x256 .f32) (x5 : Vec Ideal S1x1x2048 .f32) (x6 : Vec Ideal S1x1024x256 .f32) (x7 : Vec Ideal S1x2048x512 .f32) (x8 : Vec Ideal S1x256x512 .f32) (x9 : Vec Ideal S1x1x2048 .f32) (o : Vec Ideal S1024x2048 .f32) (u : Vec Ideal S1024x2048 .bf16) (r : Vec Ideal S1024x1 .f32) (a : Fin 1024) (C : Fin 2048) :
    (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).2.1 (ix2 a C)
      = normed (fun a C => (runC c i arg2 harg2 arg3 harg3 arg4 harg4 arg5 harg5 arg6 harg6 arg7 harg7 arg8 harg8 arg9 harg9 arg10 harg10 arg11 harg11 arg12 harg12 arg13 harg13 arg14 harg14 hc1 hc2 hc3 hc4 hc5 hc6 x0 x1 x2 x3 x4 x5 x6 x7 x8 x9 o u r).1 (ix2 a C)) x5 a C := by
  unfold runC; dsimp only; sl_unfold_run_names
  have e : Scf.trips (0#32) (Scalar.addi 0#32 4#32) 1#32 = 4 := by decide +kernel
  rw [e]
  refine (loop1 _ _ _ _ _ _ _ _ _ _ _ _ _ _ _ _ _ _ _ _ _ _ _ _ _ _ _ _ _ _ _ _ 4 le_rfl a C).trans ((if_pos (by omega)).trans ?_)
  exact normed_congr (fun _ _ => rfl) (load_all _ harg7 x5 _) a C

end Cert.Kernel2Ideal.Ple

end
-- ==== Proof.Ple.Points.lean ====
module

public import proofs.«01_k».proof.Proof.Ple.Blocks
public import proofs.«01_k».proof.Proof.Ple.ValA
public import proofs.«01_k».proof.Proof.Ple.ValB
public import proofs.«01_k».proof.Proof.Ple.ValC
public import proofs.«01_k».proof.Proof.Ple.ValD
public import proofs.«01_k».proof.Proof.Ple.ValE
public import proofs.«01_k».proof.Proof.Ple.RowsC

@[expose] public section

set_option maxRecDepth 16384
set_option maxHeartbeats 1000000

noncomputable section

namespace Cert.Kernel2Ideal.Ple

open Cert.Kernel2Ideal Cert.Kernel2Ideal.Gen Cert.Ple
open Idealize.ShloMosaic Idealize.ShloMosaic.TcCoe Idealize.SL.Sem

variable (m : (ℓ : Loc nD τ sig) → Buf (Elt Ideal) ℓ)

/-! What the call's points accumulate, in the arrays it reads. -/

/-- `main_v5` when the call is entered. -/
abbrev uV (c : Dev nD) : FVec Ideal S8192x2048 .bf16 := V m c main_v5
/-- `main_v8` when the call is entered. -/
abbrev ssV (c : Dev nD) : FVec Ideal S8192x128 .f32 := V m c main_v8
/-- `main_v10` when the call is entered. -/
abbrev upV (c : Dev nD) : FVec Ideal S1x2048x8192 .bf16 := V m c main_v10
/-- `main_v12` when the call is entered. -/
abbrev downV (c : Dev nD) : FVec Ideal S1x8192x2048 .bf16 := V m c main_v12
/-- `main_arg0` when the call is entered. -/
abbrev resV (c : Dev nD) : FVec Ideal S8192x2048 .f32 := V m c main_arg0
/-- `main_arg5` when the call is entered. -/
abbrev pV (c : Dev nD) : FVec Ideal S2x8192x256 .f32 := V m c main_arg5
/-- `main_arg6` when the call is entered. -/
abbrev gateV (c : Dev nD) : FVec Ideal S2x2048x2048 .f32 := V m c main_arg6
/-- `main_arg7` when the call is entered. -/
abbrev pupV (c : Dev nD) : FVec Ideal S2x256x2048 .f32 := V m c main_arg7
/-- `main_v14` when the call is entered. -/
abbrev embGainV (c : Dev nD) : FVec Ideal S2x1x2048 .f32 := V m c main_v14
/-- `main_v13` when the call is entered. -/
abbrev lastGainV (c : Dev nD) : FVec Ideal S1x1x2048 .f32 := V m c main_v13

/-- The hidden column `k` of slab `n`. -/
def hc (n : ℕ) (k : Fin 1024) : Fin 8192 := ⟨(1024 * n + k.val) % 8192, Nat.mod_lt _ (by norm_num)⟩

theorem hcol_eq (t : Fin cfg0.N) (k : Fin 1024) : hcol t k = hc (slabOf (t.val / 12) (t.val % 12)) k :=
  Fin.ext (by have := slabOf_lt (t.val / 12) (t.val % 12); show _ = _ % _; rw [Nat.mod_eq_of_lt (by omega)]; rfl)

/-- A row's scale. -/
def scaleVal (c : Dev nD) (R : Fin 8192) : EReal := Ideal.rsqrt ((∑ l : Fin 128, ssV m c (ix2 R l)) * inv2048 + eps)

/-- The squared positive part of a hidden entry. -/
def hidVal (c : Dev nD) (R K : Fin 8192) : EReal :=
  relu2 ((∑ j : Fin 2048, uV m c (ix2 R j) * upV m c (ix3 0 j K)) * scaleVal m c R)

/-- One slab's part of the product with the second matrix. -/
def slabVal (c : Dev nD) (R : Fin 8192) (n : ℕ) (C : Fin 2048) : EReal :=
  ∑ k : Fin 1024, hidVal m c R (hc n k) * downV m c (ix3 0 (hc n k) C)

/-- The residual. -/
def resVal (c : Dev nD) (R : Fin 8192) (C : Fin 2048) : EReal := resV m c (ix2 R C)

/-- The residual after the squared-positive-part layer. -/
def mlpVal (c : Dev nD) (R : Fin 8192) (C : Fin 2048) : EReal := (∑ n ∈ Finset.range 8, slabVal m c R n C) + resVal m c R C

/-- Its rows, normalized, times the embedding's gains. -/
def rowVal (c : Dev nD) (R : Fin 8192) (C : Fin 2048) : EReal :=
  mlpVal m c R C * rms (∑ j : Fin 2048, mlpVal m c R j * mlpVal m c R j) * embGainV m c (ix3 1 0 C)

/-- The gated embedding. -/
def embVal (c : Dev nD) (R : Fin 8192) (C : Fin 2048) : EReal :=
  (∑ q : Fin 256, pV m c (ix3 1 R q) * pupV m c (ix3 1 q C))
    * logis (∑ j : Fin 2048, rowVal m c R j * gateV m c (ix3 1 j C))

/-- The residual with the embedding. -/
def sumVal (c : Dev nD) (R : Fin 8192) (C : Fin 2048) : EReal := mlpVal m c R C + embVal m c R C

/-- The result. -/
def outVal (c : Dev nD) (R : Fin 8192) (C : Fin 2048) : EReal :=
  sumVal m c R C * rms (∑ j : Fin 2048, sumVal m c R j * sumVal m c R j) * lastGainV m c (ix3 0 0 C)

theorem slab_point (c : Dev nD) (t : Fin cfg0.N) (r : Fin 1024 → EReal) (a : Fin 1024) (C : Fin 2048) (hr : r a = scaleVal m c (row t a)) :
    slab (iblk m c 0 t) (iblk m c 2 t) (iblk m c 3 t) r a C = slabVal m c (row t a) (slabOf (t.val / 12) (t.val % 12)) C := by
  unfold slab slabVal hidVal
  refine Finset.sum_congr rfl fun k _ => ?_
  rw [blk_3, hr, hcol_eq]
  refine congrArg (fun x => relu2 (x * _) * _) (Finset.sum_congr rfl fun j _ => ?_)
  rw [blk_0, blk_2, hcol_eq]

theorem scale_point (c : Dev nD) (t : Fin cfg0.N) (a : Fin 1024) :
    k0_pay10 (F := Ideal) (iblk m c 1 t) (ix2 a 0) = scaleVal m c (row t a) := by
  refine (pay10_at _ a).trans ?_
  unfold scaleVal
  refine congrArg (fun x => Ideal.rsqrt (x * inv2048 + eps)) (Finset.sum_congr rfl fun l _ => ?_)
  exact blk_1 m c t a l

theorem piece_point (c : Dev nD) (t : Fin cfg0.N) (h : t.val % 12 < 8) (a : Fin 1024) (C : Fin 2048) :
    piece (pieceCol (grid0.coords t)) (iblk m c 4 t) a C
      = if 256 * (t.val % 12) ≤ C.val ∧ C.val < 256 * (t.val % 12) + 256 then resVal m c (row t a) C else 0 := by
  unfold piece resVal
  rw [pieceCol_eq t h]
  by_cases hc : 256 * (t.val % 12) ≤ C.val ∧ C.val < 256 * (t.val % 12) + 256
  · rw [dif_pos hc, if_pos hc]
    refine (blk_4 m c t a _).trans (congrArg (fun D => resV m c (ix2 (row t a) D)) (Fin.ext ?_))
    show 256 * min (t.val % 12) 7 + (C.val - 256 * (t.val % 12)) = C.val
    omega
  · rw [dif_neg hc, if_neg hc]

theorem slice_point (c : Dev nD) (t : Fin cfg0.N) (h : 8 ≤ t.val % 12) (u : Vec Ideal S1024x2048 .bf16) (a : Fin 1024)
    (hu : ∀ j, u (ix2 a j) = rowVal m c (row t a) j) (C : Fin 2048) :
    slice (sliceCol (grid0.coords t)) u (iblk m c 6 t) (iblk m c 7 t) (iblk m c 8 t) a C
      = if 512 * sliceOf (t.val / 12) (t.val % 12) ≤ C.val ∧ C.val < 512 * sliceOf (t.val / 12) (t.val % 12) + 512 then embVal m c (row t a) C else 0 := by
  unfold slice embVal
  rw [sliceCol_eq t h]
  by_cases hc : 512 * sliceOf (t.val / 12) (t.val % 12) ≤ C.val ∧ C.val < 512 * sliceOf (t.val / 12) (t.val % 12) + 512
  · rw [dif_pos hc, if_pos hc]
    have e : ecol t ⟨C.val - 512 * sliceOf (t.val / 12) (t.val % 12), by omega⟩ = C := Fin.ext (by
      show 512 * sliceOf (t.val / 12) (t.val % 12) + (C.val - 512 * sliceOf (t.val / 12) (t.val % 12)) = C.val
      omega)
    refine congrArg₂ (fun x y => x * logis y) (Finset.sum_congr rfl fun q _ => ?_) (Finset.sum_congr rfl fun j _ => ?_)
    · exact congrArg₂ (fun x y : EReal => x * y) (blk_6 m c t a q) ((blk_8 m c t q _).trans (by rw [e]))
    · exact congrArg₂ (fun x y : EReal => x * y) (hu j) ((blk_7 m c t j _).trans (by rw [e]))
  · rw [dif_neg hc, if_neg hc]

/-! Each kind of point on what it finds. -/

theorem point_A (c : Dev nD) (t : Fin cfg0.N) (h : t.val % 12 = 0) (a : Fin 1024) (C : Fin 2048) :
    (outsAt m c t.val t.isLt).1 (ix2 a C) = slabVal m c (row t a) (slabOf (t.val / 12) (t.val % 12)) C
      + (if 256 * (t.val % 12) ≤ C.val ∧ C.val < 256 * (t.val % 12) + 256 then resVal m c (row t a) C else 0)
    ∧ (outsAt m c t.val t.isLt).2.2 (ix2 a 0) = scaleVal m c (row t a) := by
  have hf := outsAt_first m c t h ((ms0_10 t).view.read (Elt Ideal) (ms0_10 t).view.junk) (scM0_0.view.read (Elt Ideal) scM0_0.view.junk) (scM0_1.view.read (Elt Ideal) scM0_1.view.junk)
  rw [hf.1, hf.2, step_A m c t h]
  constructor
  · dsimp only; unfold atA
    rw [valA, slab_point m c t _ a C (scale_point m c t a), piece_point m c t (by omega)]
  · dsimp only; unfold atA
    rw [scaleA, scale_point]

theorem point_B (c : Dev nD) (t : Fin cfg0.N) (h : 0 < t.val % 12 ∧ t.val % 12 ≤ 7) (o : Vec Ideal S1024x2048 .f32) (u : Vec Ideal S1024x2048 .bf16) (r : Vec Ideal S1024x1 .f32)
    (hr : ∀ a, r (ix2 a 0) = scaleVal m c (row t a)) (a : Fin 1024) (C : Fin 2048) :
    (step m c t o u r).1 (ix2 a C) = o (ix2 a C) + slabVal m c (row t a) (slabOf (t.val / 12) (t.val % 12)) C
      + (if 256 * (t.val % 12) ≤ C.val ∧ C.val < 256 * (t.val % 12) + 256 then resVal m c (row t a) C else 0)
    ∧ (step m c t o u r).2.2 = r := by
  refine ⟨?_, (step_slab m c t h o o u u r r).2⟩
  rcases (by omega : (0 < t.val % 12 ∧ t.val % 12 < 7) ∨ t.val % 12 = 7) with h' | h'
  · rw [step_B m c t h']
    dsimp only; unfold atB
    rw [valB, slab_point m c t _ a C (hr a), piece_point m c t (by omega)]
  · rw [step_C m c t h']
    dsimp only; unfold atC
    rw [valC, slab_point m c t _ a C (hr a), piece_point m c t (by omega)]

theorem point_C (c : Dev nD) (t : Fin cfg0.N) (h : t.val % 12 = 7) (o : Vec Ideal S1024x2048 .f32) (u : Vec Ideal S1024x2048 .bf16) (r : Vec Ideal S1024x1 .f32) (a : Fin 1024) (C : Fin 2048) :
    (step m c t o u r).2.1 (ix2 a C) = normed (fun a C => (step m c t o u r).1 (ix2 a C)) (iblk m c 5 t) a C := by
  rw [step_C m c t h]
  dsimp only; unfold atC
  rw [rowsC]

theorem point_D (c : Dev nD) (t : Fin cfg0.N) (h : 8 ≤ t.val % 12 ∧ t.val % 12 < 11) (o : Vec Ideal S1024x2048 .f32) (u : Vec Ideal S1024x2048 .bf16) (r : Vec Ideal S1024x1 .f32)
    (a : Fin 1024) (C : Fin 2048) :
    (step m c t o u r).1 (ix2 a C) = o (ix2 a C) + slice (sliceCol (grid0.coords t)) u (iblk m c 6 t) (iblk m c 7 t) (iblk m c 8 t) a C := by
  rw [step_D m c t h]
  dsimp only; unfold atD
  rw [valD]

theorem point_E (c : Dev nD) (t : Fin cfg0.N) (h : t.val % 12 = 11) (o : Vec Ideal S1024x2048 .f32) (u : Vec Ideal S1024x2048 .bf16) (r : Vec Ideal S1024x1 .f32)
    (a : Fin 1024) (C : Fin 2048) :
    (step m c t o u r).1 (ix2 a C) = normed (fun a C => o (ix2 a C) + slice (sliceCol (grid0.coords t)) u (iblk m c 6 t) (iblk m c 7 t) (iblk m c 8 t) a C) (iblk m c 9 t) a C := by
  rw [step_E m c t h]
  dsimp only; unfold atE
  rw [valE]

end Cert.Kernel2Ideal.Ple

end
-- ==== Proof.Ple.Walk.lean ====
module

public import proofs.«01_k».proof.Proof.Ple.Points

@[expose] public section

set_option maxRecDepth 16384
set_option maxHeartbeats 1000000

noncomputable section

namespace Cert.Kernel2Ideal.Ple

open Cert.Kernel2Ideal Cert.Kernel2Ideal.Gen Cert.Ple
open Idealize.ShloMosaic Idealize.ShloMosaic.TcCoe Idealize.SL.Sem

variable (m : (ℓ : Loc nD τ sig) → Buf (Elt Ideal) ℓ)

/-! Walking through the points of a row block. -/

/-- The point before. -/
abbrev prev (t : Fin cfg0.N) : Fin cfg0.N := ⟨t.val - 1, Nat.lt_of_le_of_lt (Nat.sub_le _ _) t.isLt⟩

theorem prev_row (t : Fin cfg0.N) (h : t.val % 12 ≠ 0) (a : Fin 1024) : row (prev t) a = row t a :=
  Fin.ext (by show 1024 * ((t.val - 1) / 12) + a.val = 1024 * (t.val / 12) + a.val; omega)

/-- After slab `s`, the result holds the first `s + 1` slabs and as many pieces of the residual. -/
theorem slabs (c : Dev nD) : ∀ s : ℕ, s < 8 → ∀ t : Fin cfg0.N, t.val % 12 = s →
    (∀ (a : Fin 1024) (C : Fin 2048), (outsAt m c t.val t.isLt).1 (ix2 a C)
      = (∑ n ∈ Finset.range (s + 1), slabVal m c (row t a) (slabOf (t.val / 12) n) C) + (if C.val < 256 * (s + 1) then resVal m c (row t a) C else 0))
    ∧ ∀ a : Fin 1024, (outsAt m c t.val t.isLt).2.2 (ix2 a 0) = scaleVal m c (row t a) := by
  intro s
  induction s with
  | zero =>
    intro _ t ht
    refine ⟨fun a C => ?_, fun a => (point_A m c t ht a 0).2⟩
    rw [(point_A m c t ht a C).1, Finset.sum_range_one, ht]
    congr 1
    exact if_congr (by omega) rfl rfl
  | succ s ih =>
    intro hs t ht
    have hp : (prev t).val % 12 = s := by show (t.val - 1) % 12 = s; omega
    have hb : (prev t).val / 12 = t.val / 12 := by show (t.val - 1) / 12 = t.val / 12; omega
    obtain ⟨i1, i2⟩ := ih (by omega) (prev t) hp
    have hr : ∀ a, (outsAt m c (prev t).val (prev t).isLt).2.2 (ix2 a 0) = scaleVal m c (row t a) := fun a => by
      rw [i2, prev_row t (by omega)]
    rw [outsAt_pos m c t (by omega)]
    refine ⟨fun a C => ?_, fun a => ?_⟩
    · refine (point_B m c t (by omega) _ _ _ hr a C).1.trans ?_
      refine (congrArg (fun x : EReal => x + _ + _) (i1 a C)).trans ?_
      rw [prev_row t (by omega), hb, ht, Finset.sum_range_succ _ (s + 1)]
      have e : ∀ x y z w : EReal, x + y + z + w = x + z + (y + w) := fun x y z w => by abel
      rw [e]
      congr 1
      by_cases c1 : C.val < 256 * (s + 1)
      · rw [if_pos c1, if_neg (by omega), if_pos (by omega), add_zero]
      · by_cases c2 : C.val < 256 * (s + 1 + 1)
        · rw [if_neg c1, if_pos (by omega), if_pos c2, zero_add]
        · rw [if_neg c1, if_neg (by omega), if_neg c2, add_zero]
    · refine (congrFun (point_B m c t (by omega) _ _ _ hr a 0).2 _).trans (hr a)

/-- The slabs in either order are all the slabs. -/
theorem slabs_all (f : ℕ → EReal) (b : ℕ) : (∑ n ∈ Finset.range 8, f (slabOf b n)) = ∑ n ∈ Finset.range 8, f n := by
  unfold slabOf
  by_cases hb : b % 2 = 0
  · simp only [if_pos hb]
    exact Finset.sum_congr rfl fun n hn => by rw [min_eq_left (by have := Finset.mem_range.mp hn; omega)]
  · simp only [if_neg hb]
    rw [← Finset.sum_range_reflect f 8]
    exact Finset.sum_congr rfl fun n hn => by rw [min_eq_left (by have := Finset.mem_range.mp hn; omega)]

/-- After the last slab. -/
theorem last_slab (c : Dev nD) (t : Fin cfg0.N) (ht : t.val % 12 = 7) (a : Fin 1024) (C : Fin 2048) :
    (outsAt m c t.val t.isLt).1 (ix2 a C) = mlpVal m c (row t a) C := by
  rw [(slabs m c 7 (by omega) t ht).1 a C, if_pos (by omega), slabs_all (fun n => slabVal m c (row t a) n C)]
  rfl

theorem last_rows (c : Dev nD) (t : Fin cfg0.N) (ht : t.val % 12 = 7) (a : Fin 1024) (C : Fin 2048) :
    (outsAt m c t.val t.isLt).2.1 (ix2 a C) = rowVal m c (row t a) C := by
  have h1 := fun C => last_slab m c t ht a C
  rw [outsAt_pos m c t (by omega)] at h1 ⊢
  rw [point_C m c t ht]
  unfold normed rowVal
  refine congrArg₂ (fun x y : EReal => x * y) (congrArg₂ (fun x y : EReal => x * rms y) (h1 C) (Finset.sum_congr rfl fun j _ => congrArg₂ (fun x y : EReal => x * y) (h1 j) (h1 j))) (blk_5 m c t C)

/-- The columns that have their embedding after point `s`. -/
def done (b s C : ℕ) : Prop := if b % 2 = 0 then C < 512 * (s - 7) else 512 * (11 - s) ≤ C

instance (b s C : ℕ) : Decidable (done b s C) := by unfold done; infer_instance

theorem add_slice (b s C : ℕ) (h : 8 ≤ s ∧ s < 12) (hC : C < 2048) (x e : EReal) :
    x + (if done b (s - 1) C then e else 0) + (if 512 * sliceOf b s ≤ C ∧ C < 512 * sliceOf b s + 512 then e else 0)
      = x + (if done b s C then e else 0) := by
  unfold done sliceOf
  by_cases hb : b % 2 = 0
  · simp only [if_pos hb]
    by_cases c1 : C < 512 * (s - 1 - 7)
    · rw [if_pos c1, if_neg (by omega), if_pos (by omega), add_zero]
    · by_cases c2 : C < 512 * (s - 7)
      · rw [if_neg c1, if_pos (by omega), if_pos c2, add_zero]
      · rw [if_neg c1, if_neg (by omega), if_neg c2, add_zero]
  · simp only [if_neg hb]
    by_cases c1 : 512 * (11 - (s - 1)) ≤ C
    · rw [if_pos c1, if_neg (by omega), if_pos (by omega), add_zero]
    · by_cases c2 : 512 * (11 - s) ≤ C
      · rw [if_neg c1, if_pos (by omega), if_pos c2, add_zero]
      · rw [if_neg c1, if_neg (by omega), if_neg c2, add_zero]

theorem done_none (b C : ℕ) (hC : C < 2048) : ¬ done b 7 C := by
  unfold done; split <;> omega

theorem done_all (b C : ℕ) (hC : C < 2048) : done b 11 C := by
  unfold done; split <;> omega

/-- After `d` slices of the embedding. -/
theorem slices (c : Dev nD) : ∀ d : ℕ, d < 4 → ∀ t : Fin cfg0.N, t.val % 12 = 7 + d →
    ∀ (a : Fin 1024) (C : Fin 2048), (outsAt m c t.val t.isLt).1 (ix2 a C)
      = mlpVal m c (row t a) C + (if done (t.val / 12) (7 + d) C.val then embVal m c (row t a) C else 0)
      ∧ (outsAt m c t.val t.isLt).2.1 (ix2 a C) = rowVal m c (row t a) C := by
  intro d
  induction d with
  | zero =>
    intro _ t ht a C
    rw [if_neg (done_none _ _ C.isLt), add_zero]
    exact ⟨last_slab m c t ht a C, last_rows m c t ht a C⟩
  | succ d ih =>
    intro hd t ht a C
    have hp : (prev t).val % 12 = 7 + d := by show (t.val - 1) % 12 = _; omega
    have hb : (prev t).val / 12 = t.val / 12 := by show (t.val - 1) / 12 = t.val / 12; omega
    have i := fun C => ih (by omega) (prev t) hp a C
    rw [prev_row t (by omega), hb] at i
    rw [outsAt_pos m c t (by omega)]
    refine ⟨?_, (congrFun (step_late m c t (by omega) _ _ _).1 _).trans (i C).2⟩
    refine (point_D m c t (by omega) _ _ _ a C).trans ?_
    rw [slice_point m c t (by omega) _ a (fun j => (i j).2) C]
    refine (congrArg (fun x : EReal => x + _) (i C).1).trans ?_
    have := add_slice (t.val / 12) (7 + (d + 1)) C.val (by omega) C.isLt (mlpVal m c (row t a) C) (embVal m c (row t a) C)
    rw [ht]
    exact this

/-- What a row block's last point leaves. -/
theorem last_point (c : Dev nD) (t : Fin cfg0.N) (ht : t.val % 12 = 11) (a : Fin 1024) (C : Fin 2048) :
    (outsAt m c t.val t.isLt).1 (ix2 a C) = outVal m c (row t a) C := by
  have hp : (prev t).val % 12 = 7 + 3 := by show (t.val - 1) % 12 = _; omega
  have hb : (prev t).val / 12 = t.val / 12 := by show (t.val - 1) / 12 = t.val / 12; omega
  have i := fun C => slices m c 3 (by omega) (prev t) hp a C
  rw [prev_row t (by omega), hb] at i
  rw [outsAt_pos m c t (by omega)]
  refine (point_E m c t ht _ _ _ a C).trans ?_
  have hs : ∀ C : Fin 2048, (outsAt m c (prev t).val (prev t).isLt).1 (ix2 a C) + slice (sliceCol (grid0.coords t)) (outsAt m c (prev t).val (prev t).isLt).2.1 (iblk m c 6 t) (iblk m c 7 t) (iblk m c 8 t) a C
      = sumVal m c (row t a) C := fun C => by
    rw [slice_point m c t (by omega) _ a (fun j => (i j).2) C, (i C).1, ht]
    refine (add_slice (t.val / 12) 11 C.val (by omega) C.isLt (mlpVal m c (row t a) C) (embVal m c (row t a) C)).trans ?_
    rw [if_pos (done_all _ _ C.isLt)]; rfl
  unfold normed outVal
  refine congrArg₂ (fun x y : EReal => x * y) (congrArg₂ (fun x y : EReal => x * rms y) (hs C) (Finset.sum_congr rfl fun j _ => congrArg₂ (fun x y : EReal => x * y) (hs j) (hs j))) (blk_9 m c t C)

end Cert.Kernel2Ideal.Ple

end
-- ==== Proof.Ple.Frame.lean ====
module

public import proofs.«01_k».proof.Proof.Ple.State
public import Idealize.ShloMosaic.Lib.Claim

@[expose] public section

set_option maxRecDepth 16384

noncomputable section

namespace Cert.Kernel2Ideal.Ple

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The scratch buffers of the launch, as the two buffers the body is given. -/
theorem PhiA_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the scratch buffers hold before point `n`: anything at first; later the row scales of the state, and, once the last
    slab's point has run, its normalized rows. -/
def Phi (c : Dev nD) : (n : ℕ) → n ≤ cfg0.N → sProp (MT nD τ sig Unit (Elt F) ℕ (UR sig nD τ) ℕ)
  | 0, _ => Pipeline.ΦA spec0 c
  | n + 1, hn => iprop(iprop((∃ u, iprop(⌜7 ≤ n % 12 → u = (outsAt m c n hn).2.1⌝ ∗ owns (c : Thread nD τ) scM0_0 fullShare u)) ∗ owns (c : Thread nD τ) scM0_1 fullShare ((outsAt m c n hn).2.2)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ u, iprop(⌜7 ≤ n % 12 → u = (outsAt m c n hn).2.1⌝ ∗ owns (c : Thread nD τ) scM0_0 fullShare u)) ∗ owns (c : Thread nD τ) scM0_1 fullShare ((outsAt m c n hn).2.2)) ∗ (∃ r, prngReg c r)) := rfl

theorem Phi_pos (c : Dev nD) (n : ℕ) (h : n ≤ cfg0.N) (hz : n ≠ 0) :
    Phi m c n h = iprop(iprop((∃ u, iprop(⌜7 ≤ (n - 1) % 12 → u = (outsAt m c (n - 1) (by omega)).2.1⌝ ∗ owns (c : Thread nD τ) scM0_0 fullShare u)) ∗ owns (c : Thread nD τ) scM0_1 fullShare ((outsAt m c (n - 1) (by omega)).2.2)) ∗ (∃ r, prngReg c r)) := by
  cases n with
  | zero => exact absurd rfl hz
  | succ n => rfl

/-- The proof data: each input's buffer keeps its block, the result's holds the state's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The body stores into the result's block at every point. -/
theorem live : ∀ i, cfg0.idle 10 i = false := by
  have h : ∀ i : grid0.Coords, idle0 10 i = false := by decide +kernel
  exact h

/-- Away from the first point of a row block the result's buffer holds what the point before left. -/
theorem before0_10 (c : Dev nD) (t : Fin cfg0.N) (h : ¬ t.val % 12 = 0) (d) :
    (dats m 0 c).before 10 t d = (outsAt m c (t.val - 1) (Nat.lt_of_le_of_lt (Nat.sub_le _ _) t.isLt)).1 := by
  rw [(dats m 0 c).before_out_kept 10 rfl t (by omega)
      (Bool.eq_false_iff.mpr fun hf => h (by have := (flush0_10 ⟨t.val - 1, Nat.lt_of_le_of_lt (Nat.sub_le _ _) t.isLt⟩).mp hf; dsimp only at this; omega))
      live (fun _ _ => rfl) d]
  exact after0_10 m c _

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 3200000 in
/-- The body at any point takes the state of the point before to its own. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = Phi m c (t.val + 1) t.isLt from rfl, Phi_succ]
  by_cases h0 : t.val % 12 = 0
  · have key : ∀ o u r, iprop(iprop(owns (c : Thread nD τ) scM0_0 fullShare u ∗ owns (c : Thread nD τ) scM0_1 fullShare r) ∗ (∃ r, prngReg c r) ∗ (dats m 0 c).owesAt () t.castSucc
        ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare o)
        ⊢ wp frame (wpE (defs₀ (F := F)) Variants.none c none) Set.univ (bodyAt0 t) (fun _ => iprop(iprop(iprop((∃ u, iprop(⌜7 ≤ t.val % 12 → u = (outsAt m c t.val t.isLt).2.1⌝ ∗ owns (c : Thread nD τ) scM0_0 fullShare u)) ∗ owns (c : Thread nD τ) scM0_1 fullShare ((outsAt m c t.val t.isLt).2.2)) ∗ (∃ r, prngReg c r))
          ∗ (dats m 0 c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (outsAt m c t.val t.isLt).1)) := by
      intro o u r
      rw [(outsAt_first m c t h0 o u r).1, (outsAt_first m c t h0 o u r).2]
      iintro ⟨⟨HS0, HS1⟩, Hg, Ho, H0, H1, H2, H3, H4, H5, H6, H7, H8, H9, H10⟩
      iapply (step_run m c t o u r Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexists ((step m c t o u r).2.1); isplitr; · ipureintro; exact fun h => absurd h (by omega)
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    by_cases hz : t.val = 0
    · rw [Phi_castSucc m c t, Phi_zero m c _ _ hz, PhiA_eq]
      iintro ⟨⟨⟨⟨%u, HS0⟩, ⟨%r, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (key _ u r)
      isplitl [HS0 HS1]
      · isplitl [HS0]; · iexact HS0
        iexact HS1
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Phi_castSucc m c t, Phi_pos m c _ _ hz]
      iintro ⟨⟨⟨⟨%u, %hu, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (key _ u _)
      isplitl [HS0 HS1]
      · isplitl [HS0]; · iexact HS0
        iexact HS1
      isplitl [Hg]; · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := by omega
    simp only [before0_10 m c t h0]
    rw [Phi_castSucc m c t, Phi_pos m c _ _ hz, outsAt_pos m c t hz]
    generalize outsAt m c (t.val - 1) (Nat.lt_of_le_of_lt (Nat.sub_le _ _) t.isLt) = S
    obtain ⟨o, U, r⟩ := S
    dsimp only
    iintro ⟨⟨⟨⟨%u, %hu, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rcases (by omega : (0 < t.val % 12 ∧ t.val % 12 ≤ 7) ∨ 8 ≤ t.val % 12) with h | h
    · rw [(step_slab m c t h o o U u r r).1, (step_slab m c t h o o U u r r).2]
      iapply (step_run m c t o u r Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      rw [(step_slab m c t h o o u u r r).2]
      isplitl [HS0 HS1 Hg]
      · isplitl [HS0 HS1]
        · isplitl [HS0]
          · iexists ((step m c t o u r).2.1); isplitr; · ipureintro; exact fun h7 => step_rows m c t (by omega) o o u U r r
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · obtain rfl := hu (by omega)
      iapply (step_run m c t o u r Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexists ((step m c t o u r).2.1); isplitr; · ipureintro; exact fun _ => rfl
            iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body the launch runs at a point is the body at its buffers. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ := fun t => by
  rw [bigSep_W0, bigSep_W0, defs₀_row]
  have hl : cfg0.idle (10 : Fin 11) (cfg0.grid.coords t) = false := live _
  refine triple_restated (sound_body m c t) rfl .rfl fun _ => ?_
  rewrite [hl]
  exact .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨⟨%u, %hu, HS0⟩, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 96 := N_0; omega)

set_option backward.isDefEq.respectTransparency.types false in
/-- The run, with every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel2Ideal.Ple

end
-- ==== Proof.Ple.Final.lean ====
module

public import proofs.«01_k».proof.Proof.Ple.Walk
public import proofs.«01_k».proof.Proof.Ple.Frame

@[expose] public section

set_option maxRecDepth 16384
set_option maxHeartbeats 1000000

noncomputable section

namespace Cert.Kernel2Ideal.Ple

open Cert.Kernel2Ideal Cert.Kernel2Ideal.Gen Cert.Ple
open Idealize.ShloMosaic Idealize.ShloMosaic.TcCoe Idealize.SL.Sem

variable (m : (ℓ : Loc nD τ sig) → Buf (Elt Ideal) ℓ)

theorem flush_at : ∀ t : Fin cfg0.N, (cfg0.win 10).flush t = true → t.val % 12 = 11 := by decide +kernel

/-- The call's whole result. -/
theorem result_eq (c : Dev nD) :
    (dats m 0 c).arrAt 10 cfg0.N = (fun i => outVal m c (i 0) (i 1) : FVec Ideal S8192x2048 .f32) := by
  have tl := t_lt
  refine (dats m 0 c).arrAt_eq_of_covers 10 _ (by decide +kernel) fun t ht y => ?_
  have hs : t.val % 12 = 11 := flush_at t ht
  obtain ⟨a, ha⟩ : ∃ a : Fin 1024, a = y 0 := ⟨y 0, rfl⟩
  obtain ⟨C, hC⟩ : ∃ C : Fin 2048, C = y 1 := ⟨y 1, rfl⟩
  have hy : y = ix2 a C := by subst ha hC; idx_ext
  have e0 : (win0_10.blk t).view.emb y 0 = row t a := Fin.ext (by subst hy; unfold row; blk_simp [idx t]; dsimp only; omega)
  have e1 : (win0_10.blk t).view.emb y 1 = C := Fin.ext (by subst hy; blk_simp [idx t])
  blk_simp
  rw [after0_10, e0, e1, hy]
  exact last_point m c t hs a C

end Cert.Kernel2Ideal.Ple

end
-- ==== Proof.Ple.Spec.lean ====
module

public import proofs.«01_k».proof.Proof.Ple.Final

@[expose] public section

set_option maxRecDepth 16384
set_option maxHeartbeats 1000000

noncomputable section

namespace Cert.Kernel2Ideal.Ple

open Cert.Kernel2Ideal Cert.Kernel2Ideal.Gen Cert.Ple
open Idealize.ShloMosaic Idealize.ShloMosaic.TcCoe Idealize.SL.Sem

/-! The layer's tail, entry by entry, as the reference forms it. -/

section
variable (h : FVec Ideal S8192x2048 .f32) (gm : FVec Ideal S2x2048 .f32) (wu : FVec Ideal S2x2048x8192 .f32) (wd : FVec Ideal S2x8192x2048 .f32)
  (gp : FVec Ideal S2x2048 .f32) (p : FVec Ideal S2x8192x256 .f32) (wg : FVec Ideal S2x2048x2048 .f32) (we : FVec Ideal S2x256x2048 .f32) (gf : FVec Ideal S2048 .f32)

/-- The sum of squares of a row. -/
def sqS (x : Fin 2048 → EReal) : EReal := ∑ j : Fin 2048, x j * x j

/-- The squared positive part of a hidden entry. -/
def hidS (R K : Fin 8192) : EReal := relu2 (∑ j : Fin 2048, (h (ix2 R j) * rms (sqS fun j => h (ix2 R j)) * gm (ix2 1 j)) * wu (ix3 1 j K))
/-- The residual after the squared-positive-part layer. -/
def mlpS (R : Fin 8192) (C : Fin 2048) : EReal := h (ix2 R C) + ∑ K : Fin 8192, hidS h gm wu R K * wd (ix3 1 K C)
/-- Its rows, normalized. -/
def rowS (R : Fin 8192) (C : Fin 2048) : EReal := mlpS h gm wu wd R C * rms (sqS fun j => mlpS h gm wu wd R j) * gp (ix2 1 C)
/-- The residual with the gated embedding. -/
def sumS (R : Fin 8192) (C : Fin 2048) : EReal :=
  mlpS h gm wu wd R C + (∑ q : Fin 256, p (ix3 1 R q) * we (ix3 1 q C)) * logis (∑ j : Fin 2048, rowS h gm wu wd gp R j * wg (ix3 1 j C))
/-- The result: its rows, normalized. -/
def outS (R : Fin 8192) (C : Fin 2048) : EReal := sumS h gm wu wd gp p wg we R C * rms (sqS fun j => sumS h gm wu wd gp p wg we R j) * gf (ix1 C)
end

/-! The call's form of it. -/

theorem sum_split {A B N : ℕ} (hN : A * B = N) (f : Fin N → EReal) (e : Fin A → Fin B → Fin N) (he : ∀ n k, (e n k).val = B * n.val + k.val) :
    (∑ n : Fin A, ∑ k : Fin B, f (e n k)) = ∑ K : Fin N, f K := by
  subst hN
  rw [← (finProdFinEquiv (m := A) (n := B)).sum_comp f, Fintype.sum_prod_type]
  refine Finset.sum_congr rfl fun n _ => Finset.sum_congr rfl fun k _ => congrArg f (Fin.ext ?_)
  rw [he, finProdFinEquiv_apply_val]
  exact Nat.add_comm _ _

theorem len_val : len2048 = ((2048 : ℝ) : EReal) := by
  unfold len2048
  simp [Ideal.ofBits, Ideal.ieee, -EReal.coe_mul]; norm_num
theorem inv_val : inv2048 = (((2048 : ℝ)⁻¹ : ℝ) : EReal) := by
  unfold inv2048
  simp [Ideal.ofBits, Ideal.ieee, -EReal.coe_mul]; norm_num
theorem eps_pos : 0 < eps := by
  unfold eps
  simp [Ideal.ofBits, Ideal.ieee, -EReal.coe_mul]
theorem eps_ne_bot : eps ≠ ⊥ := ne_of_gt (lt_trans EReal.bot_lt_zero eps_pos)

theorem div_len (S : EReal) : S * inv2048 = Ideal.div S len2048 := by
  unfold Ideal.div
  rw [len_val, inv_val, if_neg (by norm_num)]
  rfl

theorem sq_nonneg (x : EReal) : 0 ≤ x * x := by
  rcases le_total 0 x with h | h
  · exact mul_nonneg h h
  · have e : x * x = -x * -x := (neg_mul_neg x x).symm
    rw [e]; exact mul_nonneg (EReal.neg_nonneg.mpr h) (EReal.neg_nonneg.mpr h)

theorem sqS_nonneg (x : Fin 2048 → EReal) : 0 ≤ sqS x := Finset.sum_nonneg fun j _ => sq_nonneg _

theorem rms_fact (S : EReal) (hS : 0 ≤ S) : 0 ≤ rms S ∧ rms S ≠ ⊤ := by
  unfold rms
  rw [← div_len]
  have h1 : 0 ≤ S * inv2048 := mul_nonneg hS (by rw [inv_val]; exact_mod_cast (by norm_num : (0 : ℝ) ≤ 2048⁻¹))
  have h2 : 0 < S * inv2048 + eps := lt_of_lt_of_le eps_pos (le_add_of_nonneg_left h1)
  generalize S * inv2048 + eps = y at h2
  induction y with
  | bot => exact absurd h2 (by simp)
  | top =>
    have e : Ideal.rsqrt ⊤ = 0 := rfl
    rw [e]; exact ⟨le_refl _, by simp⟩
  | coe r =>
    have hr : 0 < r := by exact_mod_cast h2
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨by exact_mod_cast inv_nonneg.mpr (Real.sqrt_nonneg r), EReal.coe_ne_top _⟩

theorem sum_mul_scale {n : ℕ} (f : Fin n → EReal) (r : EReal) (h0 : 0 ≤ r) (h1 : r ≠ ⊤) : (∑ j, f j) * r = ∑ j, f j * r := by
  classical
  induction (Finset.univ : Finset (Fin n)) using Finset.induction_on with
  | empty => simp
  | insert a s ha ih => rw [Finset.sum_insert ha, Finset.sum_insert ha, EReal.right_distrib_of_nonneg_of_ne_top h0 h1, ih]

section
variable (m : (ℓ : Loc nD τ sig) → Buf (Elt Ideal) ℓ) (c : Dev nD)
  (h : FVec Ideal S8192x2048 .f32) (eh : m ((c : Thread nD τ).loc main_arg0) = h) (gm : FVec Ideal S2x2048 .f32) (egm : m ((c : Thread nD τ).loc main_arg1) = gm)
  (wu : FVec Ideal S2x2048x8192 .f32) (ewu : m ((c : Thread nD τ).loc main_arg2) = wu) (wd : FVec Ideal S2x8192x2048 .f32) (ewd : m ((c : Thread nD τ).loc main_arg3) = wd)
  (gp : FVec Ideal S2x2048 .f32) (egp : m ((c : Thread nD τ).loc main_arg4) = gp) (p : FVec Ideal S2x8192x256 .f32) (ep : m ((c : Thread nD τ).loc main_arg5) = p)
  (wg : FVec Ideal S2x2048x2048 .f32) (ewg : m ((c : Thread nD τ).loc main_arg6) = wg) (we : FVec Ideal S2x256x2048 .f32) (ewe : m ((c : Thread nD τ).loc main_arg7) = we)
  (gf : FVec Ideal S2048 .f32) (egf : m ((c : Thread nD τ).loc main_arg8) = gf)

include eh in
theorem scale_eq (R : Fin 8192) : scaleVal m c R = rms (sqS fun j => h (ix2 R j)) := by
  unfold scaleVal rms
  rw [← div_len]
  refine congrArg (fun x => Ideal.rsqrt (x * inv2048 + eps)) ?_
  unfold ssV sqS
  rw [V_v8, eh]
  refine (Finset.sum_congr rfl fun l _ => ss_at h R l).trans ?_
  rw [Finset.sum_comm]
  exact sum_split (A := 16) (B := 128) (N := 2048) (by norm_num) (fun j => h (ix2 R j) * h (ix2 R j)) (fun g l => ⟨g.val * 128 + l.val, by omega⟩) (fun g l => by show g.val * 128 + l.val = 128 * g.val + l.val; omega)

include eh egm ewu in
theorem hid_eq (R K : Fin 8192) : hidVal m c R K = hidS h gm wu R K := by
  unfold hidVal hidS
  rw [scale_eq m c h eh]
  have hf := rms_fact (sqS fun j => h (ix2 R j)) (sqS_nonneg _)
  rw [sum_mul_scale _ _ hf.1 hf.2]
  refine congrArg relu2 (Finset.sum_congr rfl fun j _ => ?_)
  unfold uV upV
  rw [V_v5, V_v10, eh, egm, ewu, u_at, up_at]
  ac_rfl

include eh egm ewu ewd in
theorem mlp_eq (R : Fin 8192) (C : Fin 2048) : mlpVal m c R C = mlpS h gm wu wd R C := by
  unfold mlpVal mlpS
  rw [add_comm]
  refine congrArg₂ (fun x y : EReal => x + y) ?_ ?_
  · unfold resVal resV
    rw [V_main_arg0, eh]
  · rw [Finset.sum_range]
    unfold slabVal downV
    rw [V_v12, ewd]
    refine (sum_split (A := 8) (B := 1024) (N := 8192) (by norm_num) (fun K => hidVal m c R K * (downArr wd (ix3 0 K C) : EReal)) (fun n k => hc n.val k)
      (fun n k => by show (1024 * n.val + k.val) % 8192 = _; exact Nat.mod_eq_of_lt (by omega))).trans ?_
    exact Finset.sum_congr rfl fun K _ => by rw [hid_eq m c h eh gm egm wu ewu, down_at]

include eh egm ewu ewd egp in
theorem row_eq (R : Fin 8192) (C : Fin 2048) : rowVal m c R C = rowS h gm wu wd gp R C := by
  have hm := mlp_eq m c h eh gm egm wu ewu wd ewd
  unfold rowVal rowS sqS embGainV
  simp only [hm]
  rw [V_v14, egp, embGain_at]

include eh egm ewu ewd egp ep ewg ewe in
theorem sum_eq (R : Fin 8192) (C : Fin 2048) : sumVal m c R C = sumS h gm wu wd gp p wg we R C := by
  unfold sumVal sumS embVal
  rw [mlp_eq m c h eh gm egm wu ewu wd ewd]
  unfold pV pupV gateV
  rw [V_main_arg5, V_main_arg6, V_main_arg7, ep, ewg, ewe]
  simp only [row_eq m c h eh gm egm wu ewu wd ewd gp egp]

include eh egm ewu ewd egp ep ewg ewe egf in
theorem out_eq (R : Fin 8192) (C : Fin 2048) : outVal m c R C = outS h gm wu wd gp p wg we gf R C := by
  have hm := sum_eq m c h eh gm egm wu ewu wd ewd gp egp p ep wg ewg we ewe
  unfold outVal outS sqS lastGainV
  simp only [hm]
  rw [V_v13, egf, lastGain_at]
end

end Cert.Kernel2Ideal.Ple

end
-- ==== Proof.Ple.Reference.lean ====
module

public import proofs.«01_k».proof.Proof.Ple.Spec
public import proofs.«01_k».proof.Proof.Gen.Reference2Ideal.Run

@[expose] public section

set_option maxRecDepth 16384
set_option maxHeartbeats 1000000

noncomputable section

namespace Cert.Reference2Ideal.Ple

open Cert.Reference2Ideal Cert.Reference2Ideal.Gen Cert.Reference2Ideal.Value
open Idealize.ShloMosaic Idealize.ShloMosaic.TcCoe Idealize.SL.Sem
open Cert.Kernel2Ideal.Ple (relu2 rms logis sqS hidS mlpS rowS sumS outS zero_val eps len2048)

/-! The reference, stage by stage. -/

/-- Rows over their root mean squares, times gains. -/
def normArr (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The second layer's gains. -/
def gainArr (g : FVec Ideal S2x2048 .f32) : FVec Ideal S2048 .f32 :=
  shapeCast _ (extractStridedSlice S1x2048 ![1, 0] g slices_S2x2048_S1x2048_1_0) shapeCasts_S1x2048_S2048

/-- The positive part of the product with the first matrix. -/
def reluArr (x : FVec Ideal S8192x2048 .f32) (w : FVec Ideal S2x2048x8192 .f32) : FVec Ideal S8192x8192 .f32 :=
  maximumf (Host.dotGeneral dot_S8192x2048_S2048x8192_S8192x8192_1_0_0_1_n_n none x (shapeCast _ (extractStridedSlice S1x2048x8192 ![1, 0, 0] w slices_S2x2048x8192_S1x2048x8192_1_0_0) shapeCasts_S1x2048x8192_S2048x8192)) (broadcastInDim S8192x8192 ![] bcast_S_S8192x8192 (constant S_ .f32 0x00000000#32))

/-- The residual and the product with the second matrix. -/
def mlpArr (h : FVec Ideal S8192x2048 .f32) (y : FVec Ideal S8192x8192 .f32) (w : FVec Ideal S2x8192x2048 .f32) : FVec Ideal S8192x2048 .f32 :=
  addf h (Host.dotGeneral dot_S8192x8192_S8192x2048_S8192x2048_1_0_0_1_n_n none (mulf y y) (shapeCast _ (extractStridedSlice S1x8192x2048 ![1, 0, 0] w slices_S2x8192x2048_S1x8192x2048_1_0_0) shapeCasts_S1x8192x2048_S8192x2048))

/-- The gate. -/
def gateArr (x : FVec Ideal S8192x2048 .f32) (w : FVec Ideal S2x2048x2048 .f32) : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none x (shapeCast _ (extractStridedSlice S1x2048x2048 ![1, 0, 0] w slices_S2x2048x2048_S1x2048x2048_1_0_0) shapeCasts_S1x2048x2048_S2048x2048)))))

/-- The residual and the gated embedding. -/
def addArr (x : FVec Ideal S8192x2048 .f32) (p : FVec Ideal S2x8192x256 .f32) (w : FVec Ideal S2x256x2048 .f32) (g : FVec Ideal S8192x2048 .f32) : FVec Ideal S8192x2048 .f32 :=
  addf x (mulf (Host.dotGeneral dot_S8192x256_S256x2048_S8192x2048_1_0_0_1_n_n none (shapeCast _ (extractStridedSlice S1x8192x256 ![1, 0, 0] p slices_S2x8192x256_S1x8192x256_1_0_0) shapeCasts_S1x8192x256_S8192x256) (shapeCast _ (extractStridedSlice S1x256x2048 ![1, 0, 0] w slices_S2x256x2048_S1x256x2048_1_0_0) shapeCasts_S1x256x2048_S256x2048)) g)

section
variable (h : FVec Ideal S8192x2048 .f32) (gm : FVec Ideal S2x2048 .f32) (wu : FVec Ideal S2x2048x8192 .f32) (wd : FVec Ideal S2x8192x2048 .f32)
  (gp : FVec Ideal S2x2048 .f32) (p : FVec Ideal S2x8192x256 .f32) (wg : FVec Ideal S2x2048x2048 .f32) (we : FVec Ideal S2x256x2048 .f32) (gf : FVec Ideal S2048 .f32)

def tail1 : FVec Ideal S8192x2048 .f32 := mlpArr h (reluArr (normArr h (gainArr gm)) wu) wd
def tail2 : FVec Ideal S8192x2048 .f32 := addArr (tail1 h gm wu wd) p we (gateArr (normArr (tail1 h gm wu wd) (gainArr gp)) wg)
end

theorem res_eq (m : (ℓ : Loc nD τ sig) → Buf (Elt Ideal) ℓ) (c : Dev nD) : res_main_v67 m c
    = normArr (tail2 (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := by
  rfl

theorem norm_at (x : FVec Ideal S8192x2048 .f32) (g : FVec Ideal S2048 .f32) (R : Fin 8192) (C : Fin 2048) :
    normArr x g (ix2 R C) = x (ix2 R C) * rms (sqS fun j => x (ix2 R j)) * g (ix1 C) := by
  pointwise [normArr, zero_val]; rfl

theorem gain_at (g : FVec Ideal S2x2048 .f32) (C : Fin 2048) : gainArr g (ix1 C) = g (ix2 1 C) := by
  pointwise [gainArr]

theorem relu_at (x : FVec Ideal S8192x2048 .f32) (w : FVec Ideal S2x2048x8192 .f32) (R K : Fin 8192) :
    reluArr x w (ix2 R K) = max (∑ j : Fin 2048, x (ix2 R j) * w (ix3 1 j K)) 0 := by
  pointwise [reluArr, zero_val]

theorem mlp_at (h : FVec Ideal S8192x2048 .f32) (y : FVec Ideal S8192x8192 .f32) (w : FVec Ideal S2x8192x2048 .f32) (R : Fin 8192) (C : Fin 2048) :
    mlpArr h y w (ix2 R C) = h (ix2 R C) + ∑ K : Fin 8192, y (ix2 R K) * y (ix2 R K) * w (ix3 1 K C) := by
  pointwise [mlpArr]

theorem gate_at (x : FVec Ideal S8192x2048 .f32) (w : FVec Ideal S2x2048x2048 .f32) (R : Fin 8192) (C : Fin 2048) :
    gateArr x w (ix2 R C) = logis (∑ j : Fin 2048, x (ix2 R j) * w (ix3 1 j C)) := by
  pointwise [gateArr]
  unfold logis
  rw [show ∀ x : EReal, 0 - x = -x from fun x => by rw [sub_eq_add_neg, zero_add]]

theorem add_at (x : FVec Ideal S8192x2048 .f32) (p : FVec Ideal S2x8192x256 .f32) (w : FVec Ideal S2x256x2048 .f32) (g : FVec Ideal S8192x2048 .f32) (R : Fin 8192) (C : Fin 2048) :
    addArr x p w g (ix2 R C) = x (ix2 R C) + (∑ q : Fin 256, p (ix3 1 R q) * w (ix3 1 q C)) * g (ix2 R C) := by
  pointwise [addArr]

section
variable (h : FVec Ideal S8192x2048 .f32) (gm : FVec Ideal S2x2048 .f32) (wu : FVec Ideal S2x2048x8192 .f32) (wd : FVec Ideal S2x8192x2048 .f32)
  (gp : FVec Ideal S2x2048 .f32) (p : FVec Ideal S2x8192x256 .f32) (wg : FVec Ideal S2x2048x2048 .f32) (we : FVec Ideal S2x256x2048 .f32) (gf : FVec Ideal S2048 .f32)

theorem tail1_at (R : Fin 8192) (C : Fin 2048) : tail1 h gm wu wd (ix2 R C) = mlpS h gm wu wd R C := by
  unfold tail1 mlpS hidS relu2
  rw [mlp_at]
  simp only [relu_at, norm_at, gain_at]

theorem tail2_at (R : Fin 8192) (C : Fin 2048) : tail2 h gm wu wd gp p wg we (ix2 R C) = sumS h gm wu wd gp p wg we R C := by
  unfold tail2 sumS rowS
  rw [add_at, gate_at]
  simp only [norm_at, gain_at, tail1_at]

theorem all_at (R : Fin 8192) (C : Fin 2048) : normArr (tail2 h gm wu wd gp p wg we) gf (ix2 R C) = outS h gm wu wd gp p wg we gf R C := by
  unfold outS
  rw [norm_at]
  simp only [tail2_at]
end

end Cert.Reference2Ideal.Ple

end
-- ==== Proof.Ple.Claims.lean ====
module

public import proofs.«01_k».proof.Defs
public import proofs.«01_k».proof.Proof.Ple.Final
public import proofs.«01_k».proof.Proof.Ple.Reference

@[expose] public section

noncomputable section

namespace Cert.Ple

open Idealize.ShloMosaic Idealize.ShloMosaic.TcCoe Idealize.SL.Sem

/-- The reference's frame: its run leaves the arguments alone. -/
theorem frame_reference : quiescent_Reference2Ideal := by
  intro m g hpre
  refine (θ_run _ _ _).mono (fun r h => ⟨fun c => ?_, sem_eq_zero_of_no_sems (by decide) _⟩) (Cert.Reference2Ideal.Value.run m g)
  obtain ⟨-, a⟩ := h c
  exact a

/-- The call's array and the plain layer's array agree, index by index, when the arguments do. -/
theorem arrays_eq (m : (ℓ : Loc Cert.Kernel2Ideal.nD Cert.Kernel2Ideal.τ Cert.Kernel2Ideal.sig) → Buf (Elt Ideal) ℓ)
    (c : Dev Cert.Kernel2Ideal.nD) (h gm wu wd gp p wg we gf)
    (eh : h = m ((c : Thread Cert.Kernel2Ideal.nD Cert.Kernel2Ideal.τ).loc Cert.Kernel2Ideal.main_arg0))
    (egm : gm = m ((c : Thread Cert.Kernel2Ideal.nD Cert.Kernel2Ideal.τ).loc Cert.Kernel2Ideal.main_arg1))
    (ewu : wu = m ((c : Thread Cert.Kernel2Ideal.nD Cert.Kernel2Ideal.τ).loc Cert.Kernel2Ideal.main_arg2))
    (ewd : wd = m ((c : Thread Cert.Kernel2Ideal.nD Cert.Kernel2Ideal.τ).loc Cert.Kernel2Ideal.main_arg3))
    (egp : gp = m ((c : Thread Cert.Kernel2Ideal.nD Cert.Kernel2Ideal.τ).loc Cert.Kernel2Ideal.main_arg4))
    (ep : p = m ((c : Thread Cert.Kernel2Ideal.nD Cert.Kernel2Ideal.τ).loc Cert.Kernel2Ideal.main_arg5))
    (ewg : wg = m ((c : Thread Cert.Kernel2Ideal.nD Cert.Kernel2Ideal.τ).loc Cert.Kernel2Ideal.main_arg6))
    (ewe : we = m ((c : Thread Cert.Kernel2Ideal.nD Cert.Kernel2Ideal.τ).loc Cert.Kernel2Ideal.main_arg7))
    (egf : gf = m ((c : Thread Cert.Kernel2Ideal.nD Cert.Kernel2Ideal.τ).loc Cert.Kernel2Ideal.main_arg8)) :
    Cert.Reference2Ideal.Ple.normArr (Cert.Reference2Ideal.Ple.tail2 h gm wu wd gp p wg we) gf
      = (Cert.Kernel2Ideal.Ple.dats m 0 c).arrAt 10 Cert.Kernel2Ideal.cfg0.N := by
  refine Eq.trans (funext fun i => ?_) (Cert.Kernel2Ideal.Ple.result_eq m c).symm
  obtain ⟨R, C, rfl⟩ : ∃ (R : Fin 8192) (C : Fin 2048), i = ix2 R C := ⟨i 0, i 1, by idx_ext⟩
  exact (Cert.Reference2Ideal.Ple.all_at h gm wu wd gp p wg we gf R C).trans
    (Cert.Kernel2Ideal.Ple.out_eq m c h eh.symm gm egm.symm wu ewu.symm wd ewd.symm gp egp.symm p ep.symm wg ewg.symm we ewe.symm gf egf.symm R C).symm

/-- The last feed-forward layer with its gated embedding and the final norm: the call gives the plain layer's array. -/
theorem algebraic_ple : algebraic_Kernel2Ideal_Reference2Ideal := by
  intro m g m' g' hpre hagree
  refine ⟨fun c => (Cert.Kernel2Ideal.Ple.dats m 0 c).arrAt 10 Cert.Kernel2Ideal.cfg0.N, ?_, ?_⟩
  · refine (θ_run _ _ _).mono (fun r h c => ⟨(h.1 c).1 10, h.2.1 c⟩)
      (θ_run_and (Cert.Kernel2Ideal.Ple.run_main m g) (Cert.Kernel2Ideal.Ple.frame m g))
  · refine (θ_run _ _ _).mono (fun r h c => ?_) (Cert.Reference2Ideal.Value.run m' g')
    obtain ⟨r0, a⟩ := h c
    obtain ⟨g0, g1, g2, g3, g4, g5, g6, g7, g8⟩ := hagree c
    refine ⟨r0.trans ((Cert.Reference2Ideal.Ple.res_eq m' c).trans ?_), a⟩
    exact arrays_eq m c _ _ _ _ _ _ _ _ _ g0 g1 g2 g3 g4 g5 g6 g7 g8

end Cert.Ple

end
-- ==== Proof.Proj.Loop.lean ====
module

public import proofs.«01_k».proof.Proof.Gen.Kernel3Ideal.Frame
public import proofs.«01_k».proof.Proof.Ple.Slab

@[expose] public section

set_option maxRecDepth 16384
set_option maxHeartbeats 2000000

noncomputable section

namespace Cert.Kernel3Ideal.Proj

open Cert.Kernel3Ideal Cert.Kernel3Ideal.Gen Cert.Ple
open Cert.Kernel2Ideal.Ple (rms normed normed_congr load_all)
open Idealize.ShloMosaic Idealize.ShloMosaic.TcCoe Idealize.SL.Sem
open Idealize.ShloMosaic.Tactic

theorem pay1_at (g : Vec Ideal S1x1x2048 .f32) (x : Vec Ideal S256x2048 .f32) (a : Fin 256) (b : Fin 2048) :
    k0_pay1 (F := Ideal) g x (ix2 a b) = x (ix2 a b) * rms (∑ j : Fin 2048, x (ix2 a j) * x (ix2 a j)) * g (ix3 0 0 b) := by
  pointwise [k0_pay1]; rfl

theorem pay2_at (u : Vec Ideal S1024x2048 .bf16) (w : Vec Ideal S1x2048x1024 .f32) (a b : Fin 1024) :
    k0_pay2 (F := Ideal) u w (ix2 a b) = ∑ j : Fin 2048, u (ix2 a j) * w (ix3 0 j b) := by
  pointwise [k0_pay2]

theorem off1_val : ∀ k : Fin k0_t1_loop.trips, k0_off1 k = ![256 * k.val, 0] := by decide +kernel
theorem trips1 : k0_t1_loop.trips = 4 := by decide +kernel

/-- One trip's store: 256 rows, normalized. -/
theorem trip1_eq (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x2048 .bf16) (harg6 : arg6.IsWhole) (k0_h1 : k0_cond1 i = 1) (v9 : Vec Ideal S1x1x2048 .f32) (X_arg2 : BufTy.Contents (Elt Ideal) arg2.view.ty) (k : Fin k0_t1_loop.trips) :
    (trip_k0_t1 (F := Ideal) Variants.none c none i arg2 harg2 arg3 harg3 arg4 harg4 arg5 harg5 arg6 harg6 k0_h1 v9 X_arg2 k).1 = [⟨Rect.unit (s := S1024x2048) (k0_off1 k) S256x2048.size (k0_off1_inb i k k0_h1),
      k0_pay1 (F := Ideal) v9 (arg2.view.readAt (Elt Ideal) (Rect.unit (s := S1024x2048) (k0_off1 k) S256x2048.size (k0_off1_inb i k k0_h1)).toLoadRect X_arg2)⟩] := by
  unfold trip_k0_t1; rfl

/-- After `n` trips the first `256 n` rows are normalized and the others as they were. -/
theorem loop1 (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x2048 .bf16) (harg6 : arg6.IsWhole) (k0_h1 : k0_cond1 i = 1) (v9 : Vec Ideal S1x1x2048 .f32) (X_arg2 : BufTy.Contents (Elt Ideal) arg2.view.ty)
    (v : View sig .tc .vmem S1024x2048 .bf16) (f : BufTy.Contents (Elt Ideal) v.ty) : ∀ n : ℕ, n ≤ 4 → ∀ (a : Fin 1024) (C : Fin 2048),
    v.read (Elt Ideal) (v.writes (Elt Ideal) f (pb_k0_t1 (F := Ideal) Variants.none c none i arg2 harg2 arg3 harg3 arg4 harg4 arg5 harg5 arg6 harg6 k0_h1 v9 X_arg2 n)) (ix2 a C)
      = if a.val < 256 * n then normed (fun a C => arg2.view.read (Elt Ideal) X_arg2 (ix2 a C)) v9 a C else v.read (Elt Ideal) f (ix2 a C) := by
  intro n
  induction n with
  | zero => intro _ a C; rw [if_neg (by omega)]; rfl
  | succ n ih =>
    intro hn a C
    have hk : n < k0_t1_loop.trips := by rw [trips1]; omega
    rw [pb_k0_t1_succ (F := Ideal) Variants.none c none i arg2 harg2 arg3 harg3 arg4 harg4 arg5 harg5 arg6 harg6 k0_h1 v9 X_arg2 ⟨n, hk⟩]
    unfold tripL_k0_t1
    rw [trip1_eq]
    have ho := off1_val ⟨n, hk⟩
    dsimp only at ho
    by_cases h1 : 256 * n ≤ a.val ∧ a.val < 256 * n + 256
    · rw [if_pos (by omega)]
      refine (read_rows_in (n0 := 1024) (n1 := 2048) (w := 256) (o := 256 * n) _ _ ho _ _ _ a C ⟨a.val - 256 * n, by omega⟩ (by dsimp only; omega)).trans ?_
      refine (pay1_at _ _ _ C).trans ?_
      have hl : ∀ D : Fin 2048, arg2.view.readAt (Elt Ideal) (Rect.unit (s := S1024x2048) (k0_off1 ⟨n, hk⟩) S256x2048.size (k0_off1_inb i ⟨n, hk⟩ k0_h1)).toLoadRect X_arg2 (ix2 (⟨a.val - 256 * n, by omega⟩ : Fin 256) D)
          = arg2.view.read (Elt Ideal) X_arg2 (ix2 a D) := fun D =>
        (load_rows (n0 := 1024) (n1 := 2048) (w := 256) (o := 256 * n) _ _ ho _ _ D a (by dsimp only; omega))
      simp only [hl]
      rfl
    · refine (read_rows_out (n0 := 1024) (n1 := 2048) (w := 256) (o := 256 * n) _ _ ho _ _ _ a C (by omega)).trans ?_
      refine (ih (by omega) a C).trans ?_
      by_cases h2 : a.val < 256 * n
      · rw [if_pos h2, if_pos (by omega)]
      · rw [if_neg h2, if_neg (by omega)]

end Cert.Kernel3Ideal.Proj

end
-- ==== Proof.Proj.Val.lean ====
module

public import proofs.«01_k».proof.Proof.Proj.Loop

@[expose] public section

set_option maxRecDepth 16384
set_option maxHeartbeats 2000000

noncomputable section

namespace Cert.Kernel3Ideal.Proj

open Cert.Kernel3Ideal Cert.Kernel3Ideal.Gen Cert.Ple
open Cert.Kernel2Ideal.Ple (rms normed normed_congr load_all)
open Idealize.ShloMosaic Idealize.ShloMosaic.TcCoe Idealize.SL.Sem
open Idealize.ShloMosaic.Tactic

section
variable (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1024x2048 .bf16) (harg6 : arg6.IsWhole)
  (x0 : Vec Ideal S1024x2048 .f32) (x1 : Vec Ideal S1x1x2048 .f32) (x2 : Vec Ideal S1x2048x1024 .f32)

/-- The rows that the first point of a row block keeps: normalized. -/
theorem keptA (hc0 : cond0_0 i) (a : Fin 1024) (C : Fin 2048) :
    sout0_A_0 c i arg2 harg2 arg3 harg3 arg4 harg4 arg5 harg5 arg6 harg6 hc0 x0 x1 x2 (ix2 a C) = normed (fun a C => x0 (ix2 a C)) x1 a C := by
  unfold sout0_A_0 kernelRun0_A; dsimp only; sl_unfold_run_names
  rw [show Scf.trips (0#32) (Scalar.addi 0#32 4#32) 1#32 = 4 from trips1]
  refine (loop1 c i arg2 harg2 arg3 harg3 arg4 harg4 arg5 harg5 arg6 harg6 hc0 _ _ _ _ 4 (le_refl _) a C).trans ?_
  rw [if_pos (by omega)]
  exact normed_congr (fun a C => congrFun (harg2.read_unread x0) _) (load_all _ harg3 x1 _) a C

/-- What the first point of a row block writes. -/
theorem valA (hc0 : cond0_0 i) (a b : Fin 1024) :
    out0_A_3 c i arg2 harg2 arg3 harg3 arg4 harg4 arg5 harg5 arg6 harg6 hc0 x0 x1 x2 (ix2 a b) = ∑ j : Fin 2048, normed (fun a C => x0 (ix2 a C)) x1 a j * x2 (ix3 0 j b) := by
  unfold out0_A_3 kernelRun0_A; dsimp only; sl_unfold_run_names
  refine (read_cols_in (n0 := 1024) (n1 := 1024) (w := 1024) (o := 0) _ _ rfl _ _ _ a b b (by omega)).trans ?_
  refine (pay2_at _ _ a b).trans ?_
  rw [show Scf.trips (0#32) (Scalar.addi 0#32 4#32) 1#32 = 4 from trips1]
  refine Finset.sum_congr rfl fun j _ => congrArg₂ (fun x y : EReal => x * y) ?_ (congrFun (load_all _ harg4 x2 _) _)
  unfold View.readCov
  rw [View.readAt_full]
  refine (loop1 c i arg2 harg2 arg3 harg3 arg4 harg4 arg5 harg5 arg6 harg6 hc0 _ _ _ _ 4 (le_refl _) a j).trans ?_
  rw [if_pos (by omega)]
  exact normed_congr (fun a C => congrFun (harg2.read_unread x0) _) (load_all _ harg3 x1 _) a j

/-- What a later point writes, from the rows kept. -/
theorem valB (hc0 : ¬cond0_0 i) (u : Vec Ideal S1024x2048 .bf16) (a b : Fin 1024) :
    out0_B_3 c i arg2 harg2 arg3 harg3 arg4 harg4 arg5 harg5 arg6 harg6 hc0 x0 x1 x2 u (ix2 a b) = ∑ j : Fin 2048, u (ix2 a j) * x2 (ix3 0 j b) := by
  unfold out0_B_3 kernelRun0_B; dsimp only; sl_unfold_run_names
  refine (read_cols_in (n0 := 1024) (n1 := 1024) (w := 1024) (o := 0) _ _ rfl _ _ _ a b b (by omega)).trans ?_
  refine (pay2_at _ _ a b).trans ?_
  exact Finset.sum_congr rfl fun j _ => congrArg₂ (fun x y : EReal => x * y) (congrFun (load_all _ harg6 u _) _) (congrFun (load_all _ harg4 x2 _) _)
end

end Cert.Kernel3Ideal.Proj

end
-- ==== Proof.Proj.Final.lean ====
module

public import proofs.«01_k».proof.Proof.Proj.Val
public import proofs.«01_k».proof.Proof.Gen.Kernel3Ideal.Value
public import Idealize.ShloMosaic.Lib.Pipeline.ValueKit

@[expose] public section

set_option maxRecDepth 16384
set_option maxHeartbeats 1000000

noncomputable section

namespace Cert.Kernel3Ideal.Proj

open Cert.Kernel3Ideal Cert.Kernel3Ideal.Gen Cert.Ple
open Cert.Kernel2Ideal.Ple (rms normed normed_congr load_all)
open Idealize.ShloMosaic Idealize.ShloMosaic.TcCoe Idealize.SL.Sem

variable (m : (ℓ : Loc nD τ sig) → Buf (Elt Ideal) ℓ)

/-- The column block that a point is at: every second row block goes through them backwards. -/
def blockOf (b s : ℕ) : ℕ := if b % 2 = 0 then s else 7 - s

/-- Which block of its array each window of the call is at. -/
theorem idx : ∀ t : Fin cfg0.N, win0_0.index t = ![t.val / 8, 0] ∧ win0_1.index t = ![0, 0, 0]
    ∧ win0_2.index t = ![0, 0, blockOf (t.val / 8) (t.val % 8)] ∧ win0_3.index t = ![t.val / 8, blockOf (t.val / 8) (t.val % 8)] :=
  (by decide +kernel : ∀ t : Fin grid0.N, _)

theorem t_lt (t : Fin cfg0.N) : t.val < 64 := t.isLt
theorem blockOf_lt (b s : ℕ) (h : s < 8) : blockOf b s < 8 := by unfold blockOf; split <;> omega

/-- A row of a block, in the whole array. -/
def row (t : Fin cfg0.N) (a : Fin 1024) : Fin 8192 := ⟨1024 * (t.val / 8) + a.val, by have := t_lt t; omega⟩
/-- A column of a block, in the whole array. -/
def col (t : Fin cfg0.N) (b : Fin 1024) : Fin 8192 := ⟨1024 * blockOf (t.val / 8) (t.val % 8) + b.val, by have := blockOf_lt (t.val / 8) (t.val % 8) (by omega); omega⟩

/-- The gains as the call reads them. -/
def gainArr (g : FVec Ideal S2x2048 .f32) : FVec Ideal S2x1x2048 .f32 := shapeCast S2x1x2048 g shapeCasts_S2x2048_S2x1x2048
theorem gain_at (g : FVec Ideal S2x2048 .f32) (j : Fin 2048) : gainArr g (ix3 0 0 j) = g (ix2 0 j) := by
  pointwise [gainArr]

abbrev xV (c : Dev nD) : FVec Ideal S8192x2048 .f32 := m ((c : Thread nD τ).loc main_arg0)
abbrev gV (c : Dev nD) : FVec Ideal S2x2048 .f32 := m ((c : Thread nD τ).loc main_arg1)
abbrev wV (c : Dev nD) : FVec Ideal S1x2048x8192 .f32 := m ((c : Thread nD τ).loc main_arg2)

theorem V_v0 (c : Dev nD) : V m c main_v0 = gainArr (m ((c : Thread nD τ).loc main_arg1)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem blk_0 (c : Dev nD) (t : Fin cfg0.N) (a : Fin 1024) (j : Fin 2048) : iblk m c 0 t (ix2 a j) = xV m c (ix2 (row t a) j) := by
  refine Eq.trans ?_ (congrFun (V_main_arg0 m c) _)
  unfold iblk
  refine congrArg (V m c main_arg0) ?_
  unfold row
  blk_ext [idx t]

theorem blk_1 (c : Dev nD) (t : Fin cfg0.N) (j : Fin 2048) : iblk m c 1 t (ix3 0 0 j) = gV m c (ix2 0 j) := by
  refine Eq.trans ?_ ((congrFun (V_v0 m c) (ix3 0 0 j)).trans (gain_at _ j))
  unfold iblk
  refine congrArg (V m c main_v0) ?_
  blk_ext [idx t]

theorem blk_2 (c : Dev nD) (t : Fin cfg0.N) (j : Fin 2048) (b : Fin 1024) : iblk m c 2 t (ix3 0 j b) = wV m c (ix3 0 j (col t b)) := by
  refine Eq.trans ?_ (congrFun (V_main_arg2 m c) _)
  unfold iblk
  refine congrArg (V m c main_arg2) ?_
  unfold col
  blk_ext [idx t]

/-- An entry of the normalized rows. -/
def rowVal (c : Dev nD) (R : Fin 8192) (j : Fin 2048) : EReal := xV m c (ix2 R j) * rms (∑ k : Fin 2048, xV m c (ix2 R k) * xV m c (ix2 R k)) * gV m c (ix2 0 j)
/-- An entry of the result. -/
def outVal (c : Dev nD) (R C : Fin 8192) : EReal := ∑ j : Fin 2048, rowVal m c R j * wV m c (ix3 0 j C)

theorem normed_at (c : Dev nD) (t : Fin cfg0.N) (a : Fin 1024) (C : Fin 2048) :
    normed (fun a C => iblk m c 0 t (ix2 a C)) (iblk m c 1 t) a C = rowVal m c (row t a) C := by
  have h0 := blk_0 m c t a
  have h1 := blk_1 m c t C
  unfold normed rowVal
  exact congrArg₂ (fun x y : EReal => x * y) (congrArg₂ (fun x y : EReal => x * rms y) (h0 C) (Finset.sum_congr rfl fun j _ => congrArg₂ (fun x y : EReal => x * y) (h0 j) (h0 j))) h1

/-- Every point finds, and leaves, the normalized rows of its row block. -/
theorem kept (c : Dev nD) : ∀ (n : ℕ) (hn : n < cfg0.N) (a : Fin 1024) (C : Fin 2048), (outsAt0 m c n hn).2 (ix2 a C) = rowVal m c (row ⟨n, hn⟩ a) C := by
  intro n
  induction n with
  | zero =>
    intro hn a C
    have e := congrArg (fun p => p.2 (ix2 a C)) (outsAt0_A m c ⟨0, hn⟩ rfl)
    exact e.trans ((keptA _ _ _ _ _ _ _ _ _ _ _ _ _ _ _ _ a C).trans (normed_at m c ⟨0, hn⟩ a C))
  | succ n ih =>
    intro hn a C
    by_cases h : (n + 1) % 8 = 0
    · have e := congrArg (fun p => p.2 (ix2 a C)) (outsAt0_A m c ⟨n + 1, hn⟩ h)
      exact e.trans ((keptA _ _ _ _ _ _ _ _ _ _ _ _ _ _ _ _ a C).trans (normed_at m c ⟨n + 1, hn⟩ a C))
    · have e := congrArg (fun p => p.2 (ix2 a C)) (outsAt0_B m c ⟨n + 1, hn⟩ h)
      refine e.trans ((ih (by omega) a C).trans ?_)
      refine congrArg (fun R => rowVal m c R C) (Fin.ext ?_)
      unfold row
      dsimp only
      omega

/-- What a point writes. -/
theorem point (c : Dev nD) (t : Fin cfg0.N) (a b : Fin 1024) : (outsAt0 m c t.val t.isLt).1 (ix2 a b) = outVal m c (row t a) (col t b) := by
  have tl := t_lt t
  unfold outVal
  by_cases h : t.val % 8 = 0
  · rw [outsAt0_A m c t h]
    dsimp only
    rw [valA]
    have h1 := normed_at m c t a
    have h2 := fun j => blk_2 m c t j b
    refine Finset.sum_congr rfl fun j _ => ?_
    rw [h1 j, h2 j]
  · rw [outsAt0_B m c t h]
    dsimp only
    rw [valB]
    refine Finset.sum_congr rfl fun j _ => congrArg₂ (fun x y : EReal => x * y) ((kept m c (t.val - 1) (by omega) a j).trans ?_) (blk_2 m c t j b)
    refine congrArg (fun R => rowVal m c R j) (Fin.ext ?_)
    unfold row
    dsimp only
    omega

/-- The call's whole result. -/
theorem result_eq (c : Dev nD) : (dats m 0 c).arrAt 3 cfg0.N = (fun i => outVal m c (i 0) (i 1) : FVec Ideal S8192x8192 .f32) := by
  refine (dats m 0 c).arrAt_eq_of_covers 3 _ (by decide +kernel) fun t ht y => ?_
  obtain ⟨a, ha⟩ : ∃ a : Fin 1024, a = y 0 := ⟨y 0, rfl⟩
  obtain ⟨b, hb⟩ : ∃ b : Fin 1024, b = y 1 := ⟨y 1, rfl⟩
  have hy : y = ix2 a b := by subst ha hb; idx_ext
  have e0 : (win0_3.blk t).view.emb y 0 = row t a := Fin.ext (by subst hy; unfold row; blk_simp [idx t]; dsimp only; omega)
  have e1 : (win0_3.blk t).view.emb y 1 = col t b := Fin.ext (by subst hy; unfold col; blk_simp [idx t]; dsimp only; omega)
  blk_simp
  rw [after0_3, e0, e1, hy]
  exact point m c t a b

end Cert.Kernel3Ideal.Proj

end
-- ==== Proof.Proj.Claims.lean ====
module

public import proofs.«01_k».proof.Defs
public import proofs.«01_k».proof.Proof.Proj.Final
public import proofs.«01_k».proof.Proof.Gen.Reference3Ideal.Run

@[expose] public section

set_option maxRecDepth 16384
set_option maxHeartbeats 1000000

noncomputable section

namespace Cert.Reference3Ideal.Proj

open Cert.Reference3Ideal Cert.Reference3Ideal.Gen
open Idealize.ShloMosaic Idealize.ShloMosaic.TcCoe Idealize.SL.Sem
open Cert.Kernel2Ideal.Ple (rms zero_val)

/-- Rows over their root mean squares, times the first layer's gains. -/
def normArr (x : FVec Ideal S8192x2048 .f32) (g : FVec Ideal S2x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

/-- The product with the weights. -/
def dotArr (y : FVec Ideal S8192x2048 .f32) (w : FVec Ideal S1x2048x8192 .f32) : FVec Ideal S8192x8192 .f32 :=
  Host.dotGeneral dot_S8192x2048_S2048x8192_S8192x8192_1_0_0_1_n_n none y (shapeCast _ w shapeCasts_S1x2048x8192_S2048x8192)

theorem norm_at (x : FVec Ideal S8192x2048 .f32) (g : FVec Ideal S2x2048 .f32) (R : Fin 8192) (C : Fin 2048) :
    normArr x g (ix2 R C) = x (ix2 R C) * rms (∑ k : Fin 2048, x (ix2 R k) * x (ix2 R k)) * g (ix2 0 C) := by
  pointwise [normArr, zero_val]; rfl

theorem dot_at (y : FVec Ideal S8192x2048 .f32) (w : FVec Ideal S1x2048x8192 .f32) (R C : Fin 8192) :
    dotArr y w (ix2 R C) = ∑ j : Fin 2048, y (ix2 R j) * w (ix3 0 j C) := by
  pointwise [dotArr]

end Cert.Reference3Ideal.Proj

namespace Cert.Proj

open Idealize.ShloMosaic Idealize.ShloMosaic.TcCoe Idealize.SL.Sem
open Cert.Reference3Ideal.Proj

/-- The reference's frame: its run leaves the arguments alone. -/
theorem frame_reference : quiescent_Reference3Ideal := by
  intro m g hpre
  refine (θ_run _ _ _).mono (fun r h => ⟨fun c => ?_, sem_eq_zero_of_no_sems (by decide) _⟩) (Cert.Reference3Ideal.Value.run m g)
  obtain ⟨-, a⟩ := h c
  exact a

/-- The call's array and the plain product agree, index by index, when the arguments do. -/
theorem arrays_eq (m : (ℓ : Loc Cert.Kernel3Ideal.nD Cert.Kernel3Ideal.τ Cert.Kernel3Ideal.sig) → Buf (Elt Ideal) ℓ)
    (c : Dev Cert.Kernel3Ideal.nD) (x g w)
    (ex : x = m ((c : Thread Cert.Kernel3Ideal.nD Cert.Kernel3Ideal.τ).loc Cert.Kernel3Ideal.main_arg0))
    (eg : g = m ((c : Thread Cert.Kernel3Ideal.nD Cert.Kernel3Ideal.τ).loc Cert.Kernel3Ideal.main_arg1))
    (ew : w = m ((c : Thread Cert.Kernel3Ideal.nD Cert.Kernel3Ideal.τ).loc Cert.Kernel3Ideal.main_arg2)) :
    dotArr (normArr x g) w = (Cert.Kernel3Ideal.Gen.dats m 0 c).arrAt 3 Cert.Kernel3Ideal.cfg0.N := by
  refine Eq.trans (funext fun i => ?_) (Cert.Kernel3Ideal.Proj.result_eq m c).symm
  obtain ⟨R, C, rfl⟩ : ∃ R C : Fin 8192, i = ix2 R C := ⟨i 0, i 1, by idx_ext⟩
  rw [dot_at]
  simp only [norm_at]
  subst ex eg ew
  rfl

/-- The input projection of a layer's rows: the call gives the plain product's array. -/
theorem algebraic_proj : algebraic_Kernel3Ideal_Reference3Ideal := by
  intro m g m' g' hpre hagree
  refine ⟨fun c => (Cert.Kernel3Ideal.Gen.dats m 0 c).arrAt 3 Cert.Kernel3Ideal.cfg0.N, Cert.Kernel3Ideal.Value.run_blocks m g, ?_⟩
  refine (θ_run _ _ _).mono (fun r h c => ?_) (Cert.Reference3Ideal.Value.run m' g')
  obtain ⟨r0, a⟩ := h c
  obtain ⟨g0, g1, g2⟩ := hagree c
  exact ⟨r0.trans (arrays_eq m c _ _ _ g0 g1 g2), a⟩

end Cert.Proj

end
-- ==== Proof.Res.Pay.lean ====
module

public import proofs.«01_k».proof.Proof.Gen.Kernel4Ideal.Frame
public import Idealize.ShloMosaic.Lib.Pipeline.ValueKit

@[expose] public section

set_option maxRecDepth 16384
set_option maxHeartbeats 1000000

noncomputable section

namespace Cert.Kernel4Ideal.Res

open Cert.Kernel4Ideal Cert.Kernel4Ideal.Gen
open Idealize.ShloMosaic Idealize.ShloMosaic.TcCoe Idealize.SL.Sem

/-! What a point of the call computes from its blocks, entry by entry. -/

/-- The residual and the product. -/
theorem sum_at (x : Vec Ideal S512x2048 .f32) (a : Vec Ideal S512x2048 .bf16) (w : Vec Ideal S1x2048x2048 .bf16) (p : Fin 512) (q : Fin 2048) :
    k0_pay2 (F := Ideal) x a w (ix2 p q) = x (ix2 p q) + ∑ j : Fin 2048, a (ix2 p j) * w (ix3 0 j q) := by
  pointwise [k0_pay2]

/-- The sum times its gain. -/
theorem gain_at (x : Vec Ideal S512x2048 .f32) (a : Vec Ideal S512x2048 .bf16) (w : Vec Ideal S1x2048x2048 .bf16) (g : Vec Ideal S1x1x2048 .f32) (p : Fin 512) (q : Fin 2048) :
    k0_pay3 (F := Ideal) x a w g (ix2 p q) = k0_pay2 (F := Ideal) x a w (ix2 p q) * g (ix3 0 0 q) := by
  pointwise [k0_pay3]

/-- Lane `l` of the `n`th group of lanes. -/
def lane (n : Fin 16) (l : Fin 128) : Fin 2048 := ⟨n.val * 128 + l.val, by omega⟩

/-- The squares, added up lane by lane. -/
theorem squares_at (x : Vec Ideal S512x2048 .f32) (a : Vec Ideal S512x2048 .bf16) (w : Vec Ideal S1x2048x2048 .bf16) (p : Fin 512) (l : Fin 128) :
    k0_pay1 (F := Ideal) (k0_pay4 (F := Ideal) x a w) (k0_pay5 (F := Ideal) x a w) (ix2 p l)
      = ∑ n : Fin 16, k0_pay2 (F := Ideal) x a w (ix2 p (lane n l)) * k0_pay2 (F := Ideal) x a w (ix2 p (lane n l)) := by
  have e : ∀ q : Fin 2048, k0_pay4 (F := Ideal) x a w (ix2 p q) = k0_pay2 (F := Ideal) x a w (ix2 p q) * k0_pay2 (F := Ideal) x a w (ix2 p q) := by
    intro q
    pointwise [k0_pay4]
  simp only [← e]
  unfold k0_pay5
  generalize k0_pay4 (F := Ideal) x a w = y
  have e16 : (y (ix2 p (lane 0 l)) + y (ix2 p (lane 1 l)) + y (ix2 p (lane 2 l)) + y (ix2 p (lane 3 l))
      + y (ix2 p (lane 4 l)) + y (ix2 p (lane 5 l)) + y (ix2 p (lane 6 l)) + y (ix2 p (lane 7 l))
      + y (ix2 p (lane 8 l)) + y (ix2 p (lane 9 l)) + y (ix2 p (lane 10 l)) + y (ix2 p (lane 11 l))
      + y (ix2 p (lane 12 l)) + y (ix2 p (lane 13 l)) + y (ix2 p (lane 14 l)) + y (ix2 p (lane 15 l)) : EReal) = ∑ n : Fin 16, y (ix2 p (lane n l)) := by
    simp only [Fin.sum_univ_succ, Finset.univ_eq_empty, Finset.sum_empty, add_zero, add_assoc]
    rfl
  rw [show lane 0 l = ⟨l.val, by omega⟩ from Fin.ext (by show 0 * 128 + l.val = l.val; omega)] at e16
  refine Eq.trans ?_ e16
  pointwise [k0_pay1]
  simp only [lane]
  rfl

section
variable (x0 : Vec Ideal S512x2048 .bf16) (x1 : Vec Ideal S1x2048x2048 .bf16) (x2 : Vec Ideal S512x2048 .f32) (x3 : Vec Ideal S1x1x2048 .f32)

/-- What a point writes to the first array, from its blocks. -/
theorem out4_eq : out0_4 (F := Ideal) x0 x1 x2 x3 = k0_pay2 (F := Ideal) x2 x0 x1 := by
  unfold out0_4
  rw [View.canon_cons_unit_lit _ _ _ (by decide), View.ld_unit_lit _ _ (by decide), View.ld_unit_lit _ _ (by decide), View.ld_unit_lit _ _ (by decide)]

/-- What a point writes to the second array. -/
theorem out5_eq : out0_5 (F := Ideal) x0 x1 x2 x3 = k0_pay3 (F := Ideal) x2 x0 x1 x3 := by
  unfold out0_5
  rw [View.canon_cons_unit_lit _ _ _ (by decide), View.ld_unit_lit _ _ (by decide), View.ld_unit_lit _ _ (by decide), View.ld_unit_lit _ _ (by decide), View.ld_unit_lit _ _ (by decide)]

/-- What a point writes to the third array. -/
theorem out6_eq : out0_6 (F := Ideal) x0 x1 x2 x3 = k0_pay1 (F := Ideal) (k0_pay4 (F := Ideal) x2 x0 x1) (k0_pay5 (F := Ideal) x2 x0 x1) := by
  unfold out0_6
  rw [View.canon_cons_unit_lit _ _ _ (by decide), View.ld_unit_lit _ _ (by decide), View.ld_unit_lit _ _ (by decide), View.ld_unit_lit _ _ (by decide)]
end

end Cert.Kernel4Ideal.Res

end
-- ==== Proof.Res.Final.lean ====
module

public import proofs.«01_k».proof.Proof.Res.Pay
public import proofs.«01_k».proof.Proof.Gen.Kernel4Ideal.Value
public import Idealize.ShloMosaic.Lib.Pipeline.ValueKit

@[expose] public section

set_option maxRecDepth 16384
set_option maxHeartbeats 1000000

noncomputable section

namespace Cert.Kernel4Ideal.Res

open Cert.Kernel4Ideal Cert.Kernel4Ideal.Gen
open Idealize.ShloMosaic Idealize.ShloMosaic.TcCoe Idealize.SL.Sem Idealize.ShloMosaic.Tactic

variable (m : (ℓ : Loc nD τ sig) → Buf (Elt Ideal) ℓ)

/-- Which block of its array each window of the call is at. -/
theorem idx : ∀ t : Fin cfg0.N, win0_0.index t = ![t.val, 0] ∧ win0_1.index t = ![0, 0, 0] ∧ win0_2.index t = ![t.val, 0]
    ∧ win0_3.index t = ![1, 0, 0] ∧ win0_4.index t = ![t.val, 0] ∧ win0_5.index t = ![t.val, 0] ∧ win0_6.index t = ![t.val, 0] :=
  (by decide +kernel : ∀ t : Fin grid0.N, _)

/-- A row of a block, in the whole array. -/
def row (t : Fin cfg0.N) (p : Fin 512) : Fin 8192 := ⟨512 * t.val + p.val, by have : t.val < 16 := t.isLt; omega⟩

/-- The gains as the call reads them. -/
def gainArr (g : FVec Ideal S2x2048 .f32) : FVec Ideal S2x1x2048 .f32 := shapeCast S2x1x2048 g shapeCasts_S2x2048_S2x1x2048
theorem gainArr_at (g : FVec Ideal S2x2048 .f32) (j : Fin 2048) : gainArr g (ix3 1 0 j) = g (ix2 1 j) := by
  pointwise [gainArr]

abbrev aV (c : Dev nD) : FVec Ideal S8192x2048 .bf16 := m ((c : Thread nD τ).loc main_arg0)
abbrev wV (c : Dev nD) : FVec Ideal S1x2048x2048 .bf16 := m ((c : Thread nD τ).loc main_arg1)
abbrev xV (c : Dev nD) : FVec Ideal S8192x2048 .f32 := m ((c : Thread nD τ).loc main_arg2)
abbrev gV (c : Dev nD) : FVec Ideal S2x2048 .f32 := m ((c : Thread nD τ).loc main_arg3)

theorem V_v0 (c : Dev nD) : V m c main_v0 = gainArr (m ((c : Thread nD τ).loc main_arg3)) := by
  simp only [V, hostOps0, List.flatten_cons, List.flatten_nil, List.append_nil, List.cons_append, List.nil_append,
    StableHlo.TRef.unary, StableHlo.TRef.binary, StableHlo.TRef.toBuf, StableHlo.TRef.ofBuf, cast_eq]
  after_results_simp <;> rfl

theorem blk_0 (c : Dev nD) (t : Fin cfg0.N) (p : Fin 512) (j : Fin 2048) : iblk m c 0 t (ix2 p j) = aV m c (ix2 (row t p) j) := by
  refine Eq.trans ?_ (congrFun (V_main_arg0 m c) _)
  unfold iblk
  refine congrArg (V m c main_arg0) ?_
  unfold row
  blk_ext [idx t]

theorem blk_1 (c : Dev nD) (t : Fin cfg0.N) (j q : Fin 2048) : iblk m c 1 t (ix3 0 j q) = wV m c (ix3 0 j q) := by
  refine Eq.trans ?_ (congrFun (V_main_arg1 m c) _)
  unfold iblk
  refine congrArg (V m c main_arg1) ?_
  blk_ext [idx t]

theorem blk_2 (c : Dev nD) (t : Fin cfg0.N) (p : Fin 512) (j : Fin 2048) : iblk m c 2 t (ix2 p j) = xV m c (ix2 (row t p) j) := by
  refine Eq.trans ?_ (congrFun (V_main_arg2 m c) _)
  unfold iblk
  refine congrArg (V m c main_arg2) ?_
  unfold row
  blk_ext [idx t]

theorem blk_3 (c : Dev nD) (t : Fin cfg0.N) (j : Fin 2048) : iblk m c 3 t (ix3 0 0 j) = gV m c (ix2 1 j) := by
  refine Eq.trans ?_ ((congrFun (V_v0 m c) (ix3 1 0 j)).trans (gainArr_at _ j))
  unfold iblk
  refine congrArg (V m c main_v0) ?_
  blk_ext [idx t]

/-- An entry of the first result. -/
def resVal (c : Dev nD) (R : Fin 8192) (C : Fin 2048) : EReal := xV m c (ix2 R C) + ∑ j : Fin 2048, aV m c (ix2 R j) * wV m c (ix3 0 j C)

/-- The sum that a point computes. -/
theorem point (c : Dev nD) (t : Fin cfg0.N) (p : Fin 512) (q : Fin 2048) :
    k0_pay2 (F := Ideal) (iblk m c 2 t) (iblk m c 0 t) (iblk m c 1 t) (ix2 p q) = resVal m c (row t p) q := by
  refine (sum_at _ _ _ p q).trans ?_
  unfold resVal
  exact congrArg₂ (fun x y : EReal => x + y) (blk_2 m c t p q)
    (Finset.sum_congr rfl fun j _ => congrArg₂ (fun x y : EReal => x * y) (blk_0 m c t p j) (blk_1 m c t j q))

/-- The residual and the product. -/
theorem result_4 (c : Dev nD) : (dats m 0 c).arrAt 4 cfg0.N = (fun i => resVal m c (i 0) (i 1) : FVec Ideal S8192x2048 .f32) := by
  refine (dats m 0 c).arrAt_eq_of_covers 4 _ (by decide +kernel) fun t ht y => ?_
  obtain ⟨p, hp⟩ : ∃ p : Fin 512, p = y 0 := ⟨y 0, rfl⟩
  obtain ⟨q, hq⟩ : ∃ q : Fin 2048, q = y 1 := ⟨y 1, rfl⟩
  have hy : y = ix2 p q := by subst hp hq; idx_ext
  have e0 : (win0_4.blk t).view.emb y 0 = row t p := Fin.ext (by subst hy; unfold row; blk_simp [idx t]; dsimp only; omega)
  have e1 : (win0_4.blk t).view.emb y 1 = q := Fin.ext (by subst hy; blk_simp [idx t])
  blk_simp
  rw [after0_4, out4_eq, e0, e1, hy]
  exact point m c t p q

/-- The same, times the gains. -/
theorem result_5 (c : Dev nD) : (dats m 0 c).arrAt 5 cfg0.N = (fun i => resVal m c (i 0) (i 1) * gV m c (ix2 1 (i 1)) : FVec Ideal S8192x2048 .bf16) := by
  refine (dats m 0 c).arrAt_eq_of_covers 5 _ (by decide +kernel) fun t ht y => ?_
  obtain ⟨p, hp⟩ : ∃ p : Fin 512, p = y 0 := ⟨y 0, rfl⟩
  obtain ⟨q, hq⟩ : ∃ q : Fin 2048, q = y 1 := ⟨y 1, rfl⟩
  have hy : y = ix2 p q := by subst hp hq; idx_ext
  have e0 : (win0_5.blk t).view.emb y 0 = row t p := Fin.ext (by subst hy; unfold row; blk_simp [idx t]; dsimp only; omega)
  have e1 : (win0_5.blk t).view.emb y 1 = q := Fin.ext (by subst hy; blk_simp [idx t])
  blk_simp
  rw [after0_5, out5_eq, e0, e1, hy]
  exact (gain_at _ _ _ _ p q).trans (congrArg₂ (fun x y : EReal => x * y) (point m c t p q) (blk_3 m c t q))

/-- The squares, added up lane by lane. -/
theorem result_6 (c : Dev nD) : (dats m 0 c).arrAt 6 cfg0.N
    = (fun i => ∑ n : Fin 16, resVal m c (i 0) (lane n (i 1)) * resVal m c (i 0) (lane n (i 1)) : FVec Ideal S8192x128 .f32) := by
  refine (dats m 0 c).arrAt_eq_of_covers 6 _ (by decide +kernel) fun t ht y => ?_
  obtain ⟨p, hp⟩ : ∃ p : Fin 512, p = y 0 := ⟨y 0, rfl⟩
  obtain ⟨q, hq⟩ : ∃ q : Fin 128, q = y 1 := ⟨y 1, rfl⟩
  have hy : y = ix2 p q := by subst hp hq; idx_ext
  have e0 : (win0_6.blk t).view.emb y 0 = row t p := Fin.ext (by subst hy; unfold row; blk_simp [idx t]; dsimp only; omega)
  have e1 : (win0_6.blk t).view.emb y 1 = q := Fin.ext (by subst hy; blk_simp [idx t])
  blk_simp
  rw [after0_6, out6_eq, e0, e1, hy]
  exact (squares_at _ _ _ p q).trans (Finset.sum_congr rfl fun n _ => congrArg₂ (fun x y : EReal => x * y) (point m c t p _) (point m c t p _))

end Cert.Kernel4Ideal.Res

end
-- ==== Proof.Res.Claims.lean ====
module

public import proofs.«01_k».proof.Defs
public import proofs.«01_k».proof.Proof.Res.Final
public import proofs.«01_k».proof.Proof.Ple.Pay
public import proofs.«01_k».proof.Proof.Gen.Reference4Ideal.Run

@[expose] public section

set_option maxRecDepth 16384
set_option maxHeartbeats 1000000

noncomputable section

namespace Cert.Reference4Ideal.Res

open Cert.Reference4Ideal Cert.Reference4Ideal.Gen
open Idealize.ShloMosaic Idealize.ShloMosaic.TcCoe Idealize.SL.Sem
open Cert.Kernel4Ideal.Res (lane)
open Cert.Kernel2Ideal.Ple (zero_val)

/-- The residual and the product. -/
def sumArr (a : FVec Ideal S8192x2048 .bf16) (w : FVec Ideal S1x2048x2048 .bf16) (x : FVec Ideal S8192x2048 .f32) : FVec Ideal S8192x2048 .f32 :=
  addf x (Host.dotGeneral dot_S8192x2048_S2048x2048_S8192x2048_1_0_0_1_n_n none (extf .f32 a bitsLt_bf16_f32) (extf .f32 (shapeCast _ w shapeCasts_S1x2048x2048_S2048x2048) bitsLt_bf16_f32))

/-- Rows times the second layer's gains. -/
def gainArr (y : FVec Ideal S8192x2048 .f32) (g : FVec Ideal S2x2048 .f32) : FVec Ideal S8192x2048 .bf16 :=
  truncf .bf16 (mulf y (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))) bitsLt_bf16_f32

/-- Squares, in groups of lanes. -/
def sqArr (y : FVec Ideal S8192x2048 .f32) : FVec Ideal S8192x16x128 .f32 := shapeCast _ (mulf y y) shapeCasts_S8192x2048_S8192x16x128

/-- Groups of lanes, added up. -/
def laneArr (z : FVec Ideal S8192x16x128 .f32) : FVec Ideal S8192x128 .f32 :=
  Host.reduceAdd z (constant S_ .f32 0x00000000#32) reducesTo_S8192x16x128_S8192x128_d1 h_S_

section
variable (a : FVec Ideal S8192x2048 .bf16) (w : FVec Ideal S1x2048x2048 .bf16) (x y : FVec Ideal S8192x2048 .f32) (g : FVec Ideal S2x2048 .f32) (z : FVec Ideal S8192x16x128 .f32)

theorem sum_at (R : Fin 8192) (C : Fin 2048) : sumArr a w x (ix2 R C) = x (ix2 R C) + ∑ j : Fin 2048, a (ix2 R j) * w (ix3 0 j C) := by
  pointwise [sumArr]

theorem gain_at (R : Fin 8192) (C : Fin 2048) : gainArr y g (ix2 R C) = y (ix2 R C) * g (ix2 1 C) := by
  pointwise [gainArr]

theorem sq_at (R : Fin 8192) (n : Fin 16) (l : Fin 128) : sqArr y (ix3 R n l) = y (ix2 R (lane n l)) * y (ix2 R (lane n l)) := by
  pointwise [sqArr, lane]

theorem lane_at (R : Fin 8192) (l : Fin 128) : laneArr z (ix2 R l) = ∑ n : Fin 16, z (ix3 R n l) := by
  pointwise [laneArr, zero_val]
end

end Cert.Reference4Ideal.Res

namespace Cert.Res

open Idealize.ShloMosaic Idealize.ShloMosaic.TcCoe Idealize.SL.Sem
open Cert.Reference4Ideal.Res

/-- The reference's frame: its run leaves the arguments alone. -/
theorem frame_reference : quiescent_Reference4Ideal := by
  intro m g hpre
  refine (θ_run _ _ _).mono (fun r h => ⟨fun c => ?_, sem_eq_zero_of_no_sems (by decide) _⟩) (Cert.Reference4Ideal.Value.run m g)
  obtain ⟨-, -, -, a⟩ := h c
  exact a

section
variable (m : (ℓ : Loc Cert.Kernel4Ideal.nD Cert.Kernel4Ideal.τ Cert.Kernel4Ideal.sig) → Buf (Elt Ideal) ℓ)
    (c : Dev Cert.Kernel4Ideal.nD) (a w x g)
    (ea : a = m ((c : Thread Cert.Kernel4Ideal.nD Cert.Kernel4Ideal.τ).loc Cert.Kernel4Ideal.main_arg0))
    (ew : w = m ((c : Thread Cert.Kernel4Ideal.nD Cert.Kernel4Ideal.τ).loc Cert.Kernel4Ideal.main_arg1))
    (ex : x = m ((c : Thread Cert.Kernel4Ideal.nD Cert.Kernel4Ideal.τ).loc Cert.Kernel4Ideal.main_arg2))
    (eg : g = m ((c : Thread Cert.Kernel4Ideal.nD Cert.Kernel4Ideal.τ).loc Cert.Kernel4Ideal.main_arg3))
include ea ew ex

/-- The call's first array and the plain sum agree when the arguments do. -/
theorem sum_eq : sumArr a w x = (Cert.Kernel4Ideal.Gen.dats m 0 c).arrAt 4 Cert.Kernel4Ideal.cfg0.N := by
  refine Eq.trans (funext fun i => ?_) (Cert.Kernel4Ideal.Res.result_4 m c).symm
  obtain ⟨R, C, rfl⟩ : ∃ (R : Fin 8192) (C : Fin 2048), i = ix2 R C := ⟨i 0, i 1, by idx_ext⟩
  rw [sum_at]
  subst ea ew ex
  rfl

include eg in
/-- So do the second arrays. -/
theorem gain_eq : gainArr (sumArr a w x) g = (Cert.Kernel4Ideal.Gen.dats m 0 c).arrAt 5 Cert.Kernel4Ideal.cfg0.N := by
  refine Eq.trans (funext fun i => ?_) (Cert.Kernel4Ideal.Res.result_5 m c).symm
  obtain ⟨R, C, rfl⟩ : ∃ (R : Fin 8192) (C : Fin 2048), i = ix2 R C := ⟨i 0, i 1, by idx_ext⟩
  rw [gain_at, sum_at]
  subst ea ew ex eg
  rfl

/-- And the sums of squares. -/
theorem lane_eq : laneArr (sqArr (sumArr a w x)) = (Cert.Kernel4Ideal.Gen.dats m 0 c).arrAt 6 Cert.Kernel4Ideal.cfg0.N := by
  refine Eq.trans (funext fun i => ?_) (Cert.Kernel4Ideal.Res.result_6 m c).symm
  obtain ⟨R, l, rfl⟩ : ∃ (R : Fin 8192) (l : Fin 128), i = ix2 R l := ⟨i 0, i 1, by idx_ext⟩
  rw [lane_at]
  simp only [sq_at, sum_at]
  subst ea ew ex
  rfl
end

/-- The output projection of a layer: the call gives the plain arrays. -/
theorem algebraic_res : algebraic_Kernel4Ideal_Reference4Ideal := by
  intro m g m' g' hpre hagree
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    fun c => (Cert.Kernel4Ideal.Gen.dats m 0 c).arrAt 6 Cert.Kernel4Ideal.cfg0.N, Cert.Kernel4Ideal.Value.run_blocks m g, ?_⟩
  refine (θ_run _ _ _).mono (fun r h c => ?_) (Cert.Reference4Ideal.Value.run m' g')
  obtain ⟨r0, r1, r2, a⟩ := h c
  obtain ⟨g0, g1, g2, g3⟩ := hagree c
  exact ⟨r0.trans (sum_eq m c _ _ _ g0 g1 g2), r1.trans (gain_eq m c _ _ _ _ g0 g1 g2 g3), r2.trans (lane_eq m c _ _ _ g0 g1 g2), a⟩

end Cert.Res

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Fox.Join
public import proofs.«01_k».proof.Proof.PleK.Frame
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Ple.Claims
public import proofs.«01_k».proof.Proof.Proj.Claims
public import proofs.«01_k».proof.Proof.Res.Claims
public import Idealize.ShloMosaic.Adequacy
public import Idealize.ShloMosaic.Init

@[expose] public section

noncomputable section

namespace Cert.Proof

open Idealize.ShloMosaic Idealize.SL.Sem Cert.Kernel

/-- The reference's frame: its run leaves the arguments alone. -/
theorem frame_ReferenceIdeal : quiescent_ReferenceIdeal := by
  intro m g hpre
  refine (θ_run _ _ _).mono (fun r h => ⟨fun c => ?_, sem_eq_zero_of_no_sems (by decide) _⟩) (Cert.ReferenceIdeal.Value.run m g)
  obtain ⟨-, -, -, -, a⟩ := h c
  exact a

/-- The attention call and the plain attention, with the weights each hands on, give the same arrays. -/
theorem algebraic_fox : algebraic_KernelIdeal_ReferenceIdeal_pre_finite := by
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    Cert.KernelIdeal.Value.run_blocks m g, ?_⟩
  · refine (θ_run _ _ _).mono (fun r h c => ?_) (Cert.ReferenceIdeal.Value.run m' g')
    obtain ⟨r0, r1, r2, r3, a0, a1, a2, a3, a4, a5, a6⟩ := h c
    obtain ⟨g0, g1, g2, g3, g4, g5, g6⟩ := hagree c
    refine ⟨r0.trans ?_, r1.trans ?_, r2.trans ?_, r3.trans ?_, a0, a1, a2, a3, a4, a5, a6⟩
    · exact Cert.Fox.attention_eq m m' c _ _ _ _ rfl rfl rfl rfl g0 g1 g2 g3 (Cert.Pre_finite.Fox.real _ _ _ _ _ _ _ (hpre c))
    · rw [g4]; exact (Cert.KernelIdeal.Fox.up m c _).symm
    · rw [g5]; exact (Cert.KernelIdeal.Fox.down m c _).symm
    · rw [g6]; exact (Cert.KernelIdeal.Fox.out_w m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, by
  refine ⟨?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact frame_ReferenceIdeal
  · exact fun m ρ _ => frame_ReferenceIdeal m ρ trivial
  · exact fun m ρ _ => Cert.Kernel2.Ple.frame m ρ
  · exact fun m ρ _ => Cert.Kernel2Ideal.Ple.frame m ρ
  · exact Cert.Ple.frame_reference
  · exact fun m ρ _ => Cert.Kernel3.Gen.frame m ρ
  · exact fun m ρ _ => Cert.Kernel3Ideal.Gen.frame m ρ
  · exact Cert.Proj.frame_reference
  · exact fun m ρ _ => Cert.Kernel4.Gen.frame m ρ
  · exact fun m ρ _ => Cert.Kernel4Ideal.Gen.frame m ρ
  · exact Cert.Res.frame_reference
  · exact IdealRules.named_const.statement Cert.KernelIdeal.κ "log2e" .f32 0x3FB8AA3B#32 (((Real.log 2)⁻¹ : ℝ) : EReal) rfl
  · exact algebraic_fox
  · trivial
  · exact Cert.Ple.algebraic_ple
  · trivial
  · exact Cert.Proj.algebraic_proj
  · trivial
  · exact Cert.Res.algebraic_res⟩

end Cert.Proof

end
